-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_in_range [hPre_classes_in_range : Cert.Pre_classes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_range [hPre_classes_in_range : Cert.Pre_classes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_classes_in_range [hKernelIdeal : Cert.KernelIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_classes_in_range [hReferenceIdeal : Cert.ReferenceIdeal.Facts] [hPre_classes_in_range : Cert.Pre_classes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_classes_in_range [hKernelIdeal : Cert.KernelIdeal.Facts] [hReferenceIdeal : Cert.ReferenceIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_v238) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_classes_in_range : Cert.Pre_classes_in_range.Facts),
    quiescent_Kernel (hKernel := hKernel)
    ∧ quiescent_KernelIdeal (hKernelIdeal := hKernelIdeal)
    ∧ quiescent_KernelIdeal_pre_classes_in_range (hKernelIdeal := hKernelIdeal) (hPre_classes_in_range := hPre_classes_in_range)
    ∧ quiescent_ReferenceIdeal (hReferenceIdeal := hReferenceIdeal)
    ∧ quiescent_ReferenceIdeal_pre_classes_in_range (hReferenceIdeal := hReferenceIdeal) (hPre_classes_in_range := hPre_classes_in_range)
    ∧ preserves_Kernel_KernelIdeal
    ∧ algebraic_KernelIdeal_ReferenceIdeal_pre_classes_in_range (hKernelIdeal := hKernelIdeal) (hReferenceIdeal := hReferenceIdeal) (hPre_classes_in_range := hPre_classes_in_range)
-- ==== Pre_classes_in_range.lean ====
abbrev S8x49104x80 : Shape := ⟨3, ![8, 49104, 80]⟩
abbrev S8x49104x4 : Shape := ⟨3, ![8, 49104, 4]⟩
abbrev S1x49104x4 : Shape := ⟨3, ![1, 49104, 4]⟩
abbrev S8x20x5 : Shape := ⟨3, ![8, 20, 5]⟩
abbrev S8x20x1 : Shape := ⟨3, ![8, 20, 1]⟩
abbrev S8x20 : Shape := ⟨2, ![8, 20]⟩
abbrev S_ : Shape := ⟨0, ![]⟩

class Facts : Prop where
  slices_S8x20x5_S8x20x1_0_0_4 : S8x20x5.Slices ![0, 0, 4] S8x20x1
  shapeCasts_S8x20x1_S8x20 : S8x20x1.ShapeCasts S8x20
  bcast_S_S8x20 : S_.BroadcastsInDim S8x20 (![] : Fin 0 → Fin S8x20.rank)

variable [Facts]

def fn {F : FTy → Type} [FloatOps F] (main_arg0 : FVec F S8x49104x80 .f32) (main_arg1 : FVec F S8x49104x4 .f32) (main_arg2 : FVec F S1x49104x4 .f32) (main_arg3 : FVec F S8x20x5 .f32) : IVec S8x20 1 :=
  let main_v0 : FVec F S8x20x1 .f32 := (extractStridedSlice S8x20x1 ![0, 0, 4] · slices_S8x20x5_S8x20x1_0_0_4) main_arg3
  let main_v1 : FVec F S8x20 .f32 := shapeCast S8x20 main_v0 shapeCasts_S8x20x1_S8x20
  let main_cst : FVec F S_ .f32 := constant S_ .f32 0x00000000#32
  let main_v2 : FVec F S8x20 .f32 := broadcastInDim S8x20 ![] bcast_S_S8x20 main_cst
  let main_v3 : IVec S8x20 1 := cmpf .oge main_v1 main_v2
  let main_cst_0 : FVec F S_ .f32 := constant S_ .f32 0x42A00000#32
  let main_v4 : FVec F S8x20 .f32 := broadcastInDim S8x20 ![] bcast_S_S8x20 main_cst_0
  let main_v5 : IVec S8x20 1 := cmpf .olt main_v1 main_v4
  let main_v6 : IVec S8x20 1 := andi main_v3 main_v5
  main_v6
-- ==== Kernel.lean ====
abbrev S8x49104x80 : Shape := ⟨3, ![8, 49104, 80]⟩
abbrev S8x49104x4 : Shape := ⟨3, ![8, 49104, 4]⟩
abbrev S1x49104x4 : Shape := ⟨3, ![1, 49104, 4]⟩
abbrev S8x20x5 : Shape := ⟨3, ![8, 20, 5]⟩
abbrev S49104x4 : Shape := ⟨2, ![49104, 4]⟩
abbrev S49104x1 : Shape := ⟨2, ![49104, 1]⟩
abbrev S49104 : Shape := ⟨1, ![49104]⟩
abbrev S1x49104 : Shape := ⟨2, ![1, 49104]⟩
abbrev S_ : Shape := ⟨0, ![]⟩
abbrev S1x49152 : Shape := ⟨2, ![1, 49152]⟩
abbrev S1x8x6144 : Shape := ⟨3, ![1, 8, 6144]⟩
abbrev S8x49104x1 : Shape := ⟨3, ![8, 49104, 1]⟩
abbrev S8x49104 : Shape := ⟨2, ![8, 49104]⟩
abbrev S8x49152 : Shape := ⟨2, ![8, 49152]⟩
abbrev S8x8x6144 : Shape := ⟨3, ![8, 8, 6144]⟩
abbrev S8x1x128 : Shape := ⟨3, ![8, 1, 128]⟩
abbrev S1x20x5 : Shape := ⟨3, ![1, 20, 5]⟩
abbrev S1x1x128 : Shape := ⟨3, ![1, 1, 128]⟩
abbrev S8x6144 : Shape := ⟨2, ![8, 6144]⟩
abbrev S1x1x1 : Shape := ⟨3, ![1, 1, 1]⟩
abbrev S1 : Shape := ⟨1, ![1]⟩
abbrev S1x128 : Shape := ⟨2, ![1, 128]⟩
abbrev S8x80x49104 : Shape := ⟨3, ![8, 80, 49104]⟩
abbrev S8x80x49152 : Shape := ⟨3, ![8, 80, 49152]⟩
abbrev S8x1x49152 : Shape := ⟨3, ![8, 1, 49152]⟩
abbrev S1x80x6144 : Shape := ⟨3, ![1, 80, 6144]⟩
abbrev S1x1x6144 : Shape := ⟨3, ![1, 1, 6144]⟩
abbrev S80x6144 : Shape := ⟨2, ![80, 6144]⟩
abbrev S6144 : Shape := ⟨1, ![6144]⟩
abbrev S1x6144 : Shape := ⟨2, ![1, 6144]⟩
abbrev S8x1x1 : Shape := ⟨3, ![8, 1, 1]⟩
abbrev S8 : Shape := ⟨1, ![8]⟩

abbrev nBuf : Space → Nat
  | .hbm => 99
  | .vmem => 32
  | .smem => 2
  | _ => 0

abbrev bufTy : (tb : Table) → Fin (tcTables nBuf tb) → BufTy
  | .hbm, ⟨0, _⟩ => ⟨S8x49104x80, .f32⟩
  | .hbm, ⟨1, _⟩ => ⟨S8x49104x4, .f32⟩
  | .hbm, ⟨2, _⟩ => ⟨S1x49104x4, .f32⟩
  | .hbm, ⟨3, _⟩ => ⟨S8x20x5, .f32⟩
  | .hbm, ⟨4, _⟩ => ⟨S49104x4, .f32⟩
  | .hbm, ⟨5, _⟩ => ⟨S49104x1, .f32⟩
  | .hbm, ⟨6, _⟩ => ⟨S49104, .f32⟩
  | .hbm, ⟨7, _⟩ => ⟨S1x49104, .f32⟩
  | .hbm, ⟨8, _⟩ => ⟨S_, .i32⟩
  | .hbm, ⟨9, _⟩ => ⟨S_, .f32⟩
  | .hbm, ⟨10, _⟩ => ⟨S1x49152, .f32⟩
  | .hbm, ⟨11, _⟩ => ⟨S1x8x6144, .f32⟩
  | .hbm, ⟨12, _⟩ => ⟨S49104x1, .f32⟩
  | .hbm, ⟨13, _⟩ => ⟨S49104, .f32⟩
  | .hbm, ⟨14, _⟩ => ⟨S1x49104, .f32⟩
  | .hbm, ⟨15, _⟩ => ⟨S_, .i32⟩
  | .hbm, ⟨16, _⟩ => ⟨S_, .f32⟩
  | .hbm, ⟨17, _⟩ => ⟨S1x49152, .f32⟩
  | .hbm, ⟨18, _⟩ => ⟨S1x8x6144, .f32⟩
  | .hbm, ⟨19, _⟩ => ⟨S49104x1, .f32⟩
  | .hbm, ⟨20, _⟩ => ⟨S49104, .f32⟩
  | .hbm, ⟨21, _⟩ => ⟨S1x49104, .f32⟩
  | .hbm, ⟨22, _⟩ => ⟨S_, .i32⟩
  | .hbm, ⟨23, _⟩ => ⟨S_, .f32⟩
  | .hbm, ⟨24, _⟩ => ⟨S1x49152, .f32⟩
  | .hbm, ⟨25, _⟩ => ⟨S1x8x6144, .f32⟩
  | .hbm, ⟨26, _⟩ => ⟨S49104x1, .f32⟩
  | .hbm, ⟨27, _⟩ => ⟨S49104, .f32⟩
  | .hbm, ⟨28, _⟩ => ⟨S1x49104, .f32⟩
  | .hbm, ⟨29, _⟩ => ⟨S_, .i32⟩
  | .hbm, ⟨30, _⟩ => ⟨S_, .f32⟩
  | .hbm, ⟨31, _⟩ => ⟨S1x49152, .f32⟩
  | .hbm, ⟨32, _⟩ => ⟨S1x8x6144, .f32⟩
  | .hbm, ⟨33, _⟩ => ⟨S8x49104x1, .f32⟩
  | .hbm, ⟨34, _⟩ => ⟨S8x49104, .f32⟩
  | .hbm, ⟨35, _⟩ => ⟨S_, .i32⟩
  | .hbm, ⟨36, _⟩ => ⟨S_, .f32⟩
  | .hbm, ⟨37, _⟩ => ⟨S8x49152, .f32⟩
  | .hbm, ⟨38, _⟩ => ⟨S8x8x6144, .f32⟩
  | .hbm, ⟨39, _⟩ => ⟨S8x49104x1, .f32⟩
  | .hbm, ⟨40, _⟩ => ⟨S8x49104, .f32⟩
  | .hbm, ⟨41, _⟩ => ⟨S_, .i32⟩
  | .hbm, ⟨42, _⟩ => ⟨S_, .f32⟩
  | .hbm, ⟨43, _⟩ => ⟨S8x49152, .f32⟩
  | .hbm, ⟨44, _⟩ => ⟨S8x8x6144, .f32⟩
  | .hbm, ⟨45, _⟩ => ⟨S8x49104x1, .f32⟩
  | .hbm, ⟨46, _⟩ => ⟨S8x49104, .f32⟩
  | .hbm, ⟨47, _⟩ => ⟨S_, .i32⟩
  | .hbm, ⟨48, _⟩ => ⟨S_, .f32⟩
  | .hbm, ⟨49, _⟩ => ⟨S8x49152, .f32⟩
  | .hbm, ⟨50, _⟩ => ⟨S8x8x6144, .f32⟩
  | .hbm, ⟨51, _⟩ => ⟨S8x49104x1, .f32⟩
  | .hbm, ⟨52, _⟩ => ⟨S8x49104, .f32⟩
  | .hbm, ⟨53, _⟩ => ⟨S_, .i32⟩
  | .hbm, ⟨54, _⟩ => ⟨S_, .f32⟩
  | .hbm, ⟨55, _⟩ => ⟨S8x49152, .f32⟩
  | .hbm, ⟨56, _⟩ => ⟨S8x8x6144, .f32⟩
  | .hbm, ⟨57, _⟩ => ⟨S8x8x6144, .f32⟩
  | .hbm, ⟨58, _⟩ => ⟨S8x8x6144, .f32⟩
  | .hbm, ⟨59, _⟩ => ⟨S8x8x6144, .f32⟩
  | .hbm, ⟨60, _⟩ => ⟨S8x1x128, .f32⟩
  | .hbm, ⟨61, _⟩ => ⟨S8x1x128, .f32⟩
  | .hbm, ⟨62, _⟩ => ⟨S8x80x49104, .f32⟩
  | .hbm, ⟨63, _⟩ => ⟨S_, .i32⟩
  | .hbm, ⟨64, _⟩ => ⟨S_, .f32⟩
  | .hbm, ⟨65, _⟩ => ⟨S8x80x49152, .f32⟩
  | .hbm, ⟨66, _⟩ => ⟨S8x1x49152, .f32⟩
  | .hbm, ⟨67, _⟩ => ⟨S8x1x49152, .f32⟩
  | .hbm, ⟨68, _⟩ => ⟨S8x1x49152, .f32⟩
  | .hbm, ⟨69, _⟩ => ⟨S8x1x128, .f32⟩
  | .hbm, ⟨70, _⟩ => ⟨S8x1x1, .f32⟩
  | .hbm, ⟨71, _⟩ => ⟨S8, .f32⟩
  | .hbm, ⟨72, _⟩ => ⟨S8x1x1, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S_, .f32⟩
  | .hbm, ⟨80, _⟩ => ⟨S1, .f32⟩
  | .hbm, ⟨81, _⟩ => ⟨S_, .f32⟩
  | .hbm, ⟨82, _⟩ => ⟨S1, .f32⟩
  | .hbm, ⟨83, _⟩ => ⟨S1, .f32⟩
  | .hbm, ⟨84, _⟩ => ⟨S8x1x1, .f32⟩
  | .hbm, ⟨85, _⟩ => ⟨S8, .f32⟩
  | .hbm, ⟨86, _⟩ => ⟨S_, .f32⟩
  | .hbm, ⟨87, _⟩ => ⟨S8, .f32⟩
  | .hbm, ⟨88, _⟩ => ⟨S8, .f32⟩
  | .hbm, ⟨89, _⟩ => ⟨S_, .f32⟩
  | .hbm, ⟨90, _⟩ => ⟨S8, .f32⟩
  | .hbm, ⟨91, _⟩ => ⟨S8, .f32⟩
  | .hbm, ⟨92, _⟩ => ⟨S8, .f32⟩
  | .hbm, ⟨93, _⟩ => ⟨S_, .f32⟩
  | .hbm, ⟨94, _⟩ => ⟨S_, .f32⟩
  | .hbm, ⟨95, _⟩ => ⟨S1, .f32⟩
  | .hbm, ⟨96, _⟩ => ⟨S_, .f32⟩
  | .hbm, ⟨97, _⟩ => ⟨S1, .f32⟩
  | .hbm, ⟨98, _⟩ => ⟨S1, .f32⟩
  | .local _ .vmem, ⟨0, _⟩ => ⟨S1x8x6144, .f32⟩
  | .local _ .vmem, ⟨1, _⟩ => ⟨S1x8x6144, .f32⟩
  | .local _ .vmem, ⟨2, _⟩ => ⟨S1x8x6144, .f32⟩
  | .local _ .vmem, ⟨3, _⟩ => ⟨S1x8x6144, .f32⟩
  | .local _ .vmem, ⟨4, _⟩ => ⟨S1x8x6144, .f32⟩
  | .local _ .vmem, ⟨5, _⟩ => ⟨S1x8x6144, .f32⟩
  | .local _ .vmem, ⟨6, _⟩ => ⟨S1x8x6144, .f32⟩
  | .local _ .vmem, ⟨7, _⟩ => ⟨S1x8x6144, .f32⟩
  | .local _ .vmem, ⟨8, _⟩ => ⟨S1x8x6144, .f32⟩
  | .local _ .vmem, ⟨9, _⟩ => ⟨S1x8x6144, .f32⟩
  | .local _ .vmem, ⟨10, _⟩ => ⟨S1x8x6144, .f32⟩
  | .local _ .vmem, ⟨11, _⟩ => ⟨S1x8x6144, .f32⟩
  | .local _ .vmem, ⟨12, _⟩ => ⟨S1x8x6144, .f32⟩
  | .local _ .vmem, ⟨13, _⟩ => ⟨S1x8x6144, .f32⟩
  | .local _ .vmem, ⟨14, _⟩ => ⟨S1x8x6144, .f32⟩
  | .local _ .vmem, ⟨15, _⟩ => ⟨S1x8x6144, .f32⟩
  | .local _ .vmem, ⟨16, _⟩ => ⟨S1x8x6144, .f32⟩
  | .local _ .vmem, ⟨17, _⟩ => ⟨S1x8x6144, .f32⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S1x80x6144, .f32⟩
  | .local _ .vmem, ⟨23, _⟩ => ⟨S1x80x6144, .f32⟩
  | .local _ .vmem, ⟨24, _⟩ => ⟨S1x1x6144, .f32⟩
  | .local _ .vmem, ⟨25, _⟩ => ⟨S1x1x6144, .f32⟩
  | .local _ .vmem, ⟨26, _⟩ => ⟨S1x1x6144, .f32⟩
  | .local _ .vmem, ⟨27, _⟩ => ⟨S1x1x6144, .f32⟩
  | .local _ .vmem, ⟨28, _⟩ => ⟨S1x1x6144, .f32⟩
  | .local _ .vmem, ⟨29, _⟩ => ⟨S1x1x6144, .f32⟩
  | .local _ .vmem, ⟨30, _⟩ => ⟨S1x1x128, .f32⟩
  | .local _ .vmem, ⟨31, _⟩ => ⟨S1x1x128, .f32⟩
  | .local _ .smem, ⟨0, _⟩ => ⟨S1x20x5, .f32⟩
  | .local _ .smem, ⟨1, _⟩ => ⟨S1x20x5, .f32⟩
  | _, _ => ⟨S8x49104x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call2_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_call3_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_call4_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_call5_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_call6_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_call7_v0 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev main_v37_2 : Ref sig .tc := ⟨.hbm, 59, rfl⟩
abbrev main_v37_3 : Ref sig .tc := ⟨.hbm, 60, rfl⟩
abbrev main_v37_4 : Ref sig .tc := ⟨.hbm, 61, rfl⟩
abbrev main_v38 : Ref sig .tc := ⟨.hbm, 62, rfl⟩
abbrev main_c_7 : Ref sig .tc := ⟨.hbm, 63, rfl⟩
abbrev main_call8_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_cst_13 : Ref sig .tc := ⟨.hbm, 96, rfl⟩
abbrev main_v64 : Ref sig .tc := ⟨.hbm, 97, rfl⟩
abbrev main_v65 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc0_stg8_0 : Ref sig .tc := ⟨.smem, 0, rfl⟩
abbrev cc0_stg8_1 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .smem S1x20x5 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x6144 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x6144 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v57 : BitVec 1 := Scalar.cmpi .eq arg1 c0_i32
  let v58 : BitVec 32 := Scalar.extui v57
  let c0_i32_24 : BitVec 32 := 0#32
  let v59 : BitVec 1 := Scalar.cmpi .ne v58 c0_i32_24
  v59

def k1_cond2 (i : grid1.Coords) : BitVec 1 :=
  let arg1 : BitVec 32 := BitVec.ofNat 32 (i 1).val
  let c0_i32_25 : BitVec 32 := 0#32
  let v60 : BitVec 1 := Scalar.cmpi .sgt arg1 c0_i32_25
  let v61 : BitVec 32 := Scalar.extui v60
  let c0_i32_26 : BitVec 32 := 0#32
  let v62 : BitVec 1 := Scalar.cmpi .ne v61 c0_i32_26
  v62

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x80x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x6144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x6144 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x6144 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S8x49104x80 : Shape := ⟨3, ![8, 49104, 80]⟩
abbrev S8x49104x4 : Shape := ⟨3, ![8, 49104, 4]⟩
abbrev S1x49104x4 : Shape := ⟨3, ![1, 49104, 4]⟩
abbrev S8x20x5 : Shape := ⟨3, ![8, 20, 5]⟩
abbrev S49104x4 : Shape := ⟨2, ![49104, 4]⟩
abbrev S49104x1 : Shape := ⟨2, ![49104, 1]⟩
abbrev S49104 : Shape := ⟨1, ![49104]⟩
abbrev S_ : Shape := ⟨0, ![]⟩
abbrev S8x20x4 : Shape := ⟨3, ![8, 20, 4]⟩
abbrev S8x20x1 : Shape := ⟨3, ![8, 20, 1]⟩
abbrev S8x20 : Shape := ⟨2, ![8, 20]⟩
abbrev S8x1x20 : Shape := ⟨3, ![8, 1, 20]⟩
abbrev S1x49104x1 : Shape := ⟨3, ![1, 49104, 1]⟩
abbrev S8x49104x20 : Shape := ⟨3, ![8, 49104, 20]⟩
abbrev S8x49104 : Shape := ⟨2, ![8, 49104]⟩
abbrev S8 : Shape := ⟨1, ![8]⟩
abbrev S8x49104x1 : Shape := ⟨3, ![8, 49104, 1]⟩
abbrev S8x49104x5 : Shape := ⟨3, ![8, 49104, 5]⟩
abbrev S49104x80 : Shape := ⟨2, ![49104, 80]⟩
abbrev S1x80 : Shape := ⟨2, ![1, 80]⟩
abbrev S1x1x80 : Shape := ⟨3, ![1, 1, 80]⟩
abbrev S1x49104 : Shape := ⟨2, ![1, 49104]⟩
abbrev S1 : Shape := ⟨1, ![1]⟩

abbrev nBuf : Space → Nat
  | .hbm => 326
  | .vmem => 0
  | .smem => 0
  | _ => 0

abbrev hbmTy0_0 (i : Nat) : BufTy := match i % 128 with
  | 0 => ⟨S8x49104x80, .f32⟩
  | 1 => ⟨S8x49104x4, .f32⟩
  | 2 => ⟨S1x49104x4, .f32⟩
  | 3 => ⟨S8x20x5, .f32⟩
  | 4 => ⟨S49104x4, .f32⟩
  | 5 => ⟨S49104x1, .f32⟩
  | 6 => ⟨S49104, .f32⟩
  | 7 => ⟨S49104x1, .f32⟩
  | 8 => ⟨S49104, .f32⟩
  | 9 => ⟨S49104, .f32⟩
  | 10 => ⟨S49104x1, .f32⟩
  | 11 => ⟨S49104, .f32⟩
  | 12 => ⟨S49104x1, .f32⟩
  | 13 => ⟨S49104, .f32⟩
  | 14 => ⟨S49104, .f32⟩
  | 15 => ⟨S49104x1, .f32⟩
  | 16 => ⟨S49104, .f32⟩
  | 17 => ⟨S_, .f32⟩
  | 18 => ⟨S49104, .f32⟩
  | 19 => ⟨S49104, .f32⟩
  | 20 => ⟨S49104, .f32⟩
  | 21 => ⟨S49104x1, .f32⟩
  | 22 => ⟨S49104, .f32⟩
  | 23 => ⟨S_, .f32⟩
  | 24 => ⟨S49104, .f32⟩
  | 25 => ⟨S49104, .f32⟩
  | 26 => ⟨S49104, .f32⟩
  | 27 => ⟨S_, .f32⟩
  | 28 => ⟨S_, .f32⟩
  | 29 => ⟨S_, .f32⟩
  | 30 => ⟨S8x49104x80, .f32⟩
  | 31 => ⟨S8x49104x80, .f32⟩
  | 32 => ⟨S_, .f32⟩
  | 33 => ⟨S8x49104x80, .f32⟩
  | 34 => ⟨S8x49104x80, .f32⟩
  | 35 => ⟨S8x20x4, .f32⟩
  | 36 => ⟨S8x20x1, .f32⟩
  | 37 => ⟨S8x20, .f32⟩
  | 38 => ⟨S8x20x1, .f32⟩
  | 39 => ⟨S8x20, .f32⟩
  | 40 => ⟨S8x20, .f32⟩
  | 41 => ⟨S8x20x1, .f32⟩
  | 42 => ⟨S8x20, .f32⟩
  | 43 => ⟨S8x20x1, .f32⟩
  | 44 => ⟨S8x20, .f32⟩
  | 45 => ⟨S8x20, .f32⟩
  | 46 => ⟨S8x20, .f32⟩
  | 47 => ⟨S49104x1, .f32⟩
  | 48 => ⟨S49104, .f32⟩
  | 49 => ⟨S49104x1, .f32⟩
  | 50 => ⟨S8x20x1, .f32⟩
  | 51 => ⟨S8x20, .f32⟩
  | 52 => ⟨S8x1x20, .f32⟩
  | 53 => ⟨S1x49104x1, .f32⟩
  | 54 => ⟨S8x49104x20, .f32⟩
  | 55 => ⟨S8x49104x20, .f32⟩
  | 56 => ⟨S8x49104x20, .f32⟩
  | 57 => ⟨S49104x1, .f32⟩
  | 58 => ⟨S49104, .f32⟩
  | 59 => ⟨S49104x1, .f32⟩
  | 60 => ⟨S8x20x1, .f32⟩
  | 61 => ⟨S8x20, .f32⟩
  | 62 => ⟨S8x1x20, .f32⟩
  | 63 => ⟨S1x49104x1, .f32⟩
  | 64 => ⟨S8x49104x20, .f32⟩
  | 65 => ⟨S8x49104x20, .f32⟩
  | 66 => ⟨S8x49104x20, .f32⟩
  | 67 => ⟨S8x49104x20, .f32⟩
  | 68 => ⟨S49104x1, .f32⟩
  | 69 => ⟨S49104, .f32⟩
  | 70 => ⟨S49104x1, .f32⟩
  | 71 => ⟨S8x20x1, .f32⟩
  | 72 => ⟨S8x20, .f32⟩
  | 73 => ⟨S8x1x20, .f32⟩
  | 74 => ⟨S1x49104x1, .f32⟩
  | 75 => ⟨S8x49104x20, .f32⟩
  | 76 => ⟨S8x49104x20, .f32⟩
  | 77 => ⟨S8x49104x20, .f32⟩
  | 78 => ⟨S49104x1, .f32⟩
  | 79 => ⟨S49104, .f32⟩
  | 80 => ⟨S49104x1, .f32⟩
  | 81 => ⟨S8x20x1, .f32⟩
  | 82 => ⟨S8x20, .f32⟩
  | 83 => ⟨S8x1x20, .f32⟩
  | 84 => ⟨S1x49104x1, .f32⟩
  | 85 => ⟨S8x49104x20, .f32⟩
  | 86 => ⟨S8x49104x20, .f32⟩
  | 87 => ⟨S8x49104x20, .f32⟩
  | 88 => ⟨S8x49104x20, .f32⟩
  | 89 => ⟨S_, .f32⟩
  | 90 => ⟨S8x49104x20, .f32⟩
  | 91 => ⟨S8x49104x20, .f32⟩
  | 92 => ⟨S_, .f32⟩
  | 93 => ⟨S8x49104x20, .f32⟩
  | 94 => ⟨S8x49104x20, .f32⟩
  | 95 => ⟨S49104x1, .f32⟩
  | 96 => ⟨S49104, .f32⟩
  | 97 => ⟨S49104x1, .f32⟩
  | 98 => ⟨S49104, .f32⟩
  | 99 => ⟨S49104, .f32⟩
  | 100 => ⟨S49104x1, .f32⟩
  | 101 => ⟨S49104, .f32⟩
  | 102 => ⟨S49104x1, .f32⟩
  | 103 => ⟨S49104, .f32⟩
  | 104 => ⟨S49104, .f32⟩
  | 105 => ⟨S49104, .f32⟩
  | 106 => ⟨S49104x1, .f32⟩
  | 107 => ⟨S8x1x20, .f32⟩
  | 108 => ⟨S1x49104x1, .f32⟩
  | 109 => ⟨S8x49104x20, .f32⟩
  | 110 => ⟨S8x49104x20, .f32⟩
  | 111 => ⟨S8x49104x20, .f32⟩
  | 112 => ⟨S8x49104x20, .f32⟩
  | 113 => ⟨S8x49104x20, .f32⟩
  | 114 => ⟨S_, .f32⟩
  | 115 => ⟨S8x49104x20, .f32⟩
  | 116 => ⟨S8x49104x20, .f32⟩
  | 117 => ⟨S8x49104x20, .f32⟩
  | 118 => ⟨S8x49104x20, .f32⟩
  | 119 => ⟨S_, .f32⟩
  | 120 => ⟨S8x49104, .f32⟩
  | 121 => ⟨S8x49104x20, .i32⟩
  | 122 => ⟨S_, .f32⟩
  | 123 => ⟨S_, .i32⟩
  | 124 => ⟨S8x49104, .f32⟩
  | 125 => ⟨S8x49104, .i32⟩
  | 126 => ⟨S_, .f32⟩
  | 127 => ⟨S8x49104, .f32⟩
  | _ => ⟨S8x49104x80, .f32⟩

abbrev hbmTy0_1 (i : Nat) : BufTy := match i % 128 with
  | 0 => ⟨S8x49104, .i1⟩
  | 1 => ⟨S8x49104, .i32⟩
  | 2 => ⟨S_, .i32⟩
  | 3 => ⟨S8, .i32⟩
  | 4 => ⟨S8, .f32⟩
  | 5 => ⟨S_, .i32⟩
  | 6 => ⟨S8x49104, .i32⟩
  | 7 => ⟨S8x49104, .i1⟩
  | 8 => ⟨S_, .i32⟩
  | 9 => ⟨S8x49104, .i32⟩
  | 10 => ⟨S8x49104, .i32⟩
  | 11 => ⟨S8x49104, .i32⟩
  | 12 => ⟨S8x49104x1, .i32⟩
  | 13 => ⟨S8x49104x5, .f32⟩
  | 14 => ⟨S_, .f32⟩
  | 15 => ⟨S49104x80, .f32⟩
  | 16 => ⟨S_, .f32⟩
  | 17 => ⟨S8x49104, .f32⟩
  | 18 => ⟨S8x49104, .i1⟩
  | 19 => ⟨S8x49104x1, .i1⟩
  | 20 => ⟨S_, .f32⟩
  | 21 => ⟨S_, .f32⟩
  | 22 => ⟨S8x49104x80, .i1⟩
  | 23 => ⟨S49104x80, .f32⟩
  | 24 => ⟨S8x49104x80, .f32⟩
  | 25 => ⟨S8x49104x80, .f32⟩
  | 26 => ⟨S8x49104x80, .f32⟩
  | 27 => ⟨S8x49104x1, .i1⟩
  | 28 => ⟨S_, .f32⟩
  | 29 => ⟨S_, .f32⟩
  | 30 => ⟨S8x49104x80, .i1⟩
  | 31 => ⟨S49104x80, .f32⟩
  | 32 => ⟨S8x49104x80, .f32⟩
  | 33 => ⟨S8x49104x80, .f32⟩
  | 34 => ⟨S8x49104x1, .f32⟩
  | 35 => ⟨S8x49104, .f32⟩
  | 36 => ⟨S8x49104, .i32⟩
  | 37 => ⟨S8x49104x1, .i32⟩
  | 38 => ⟨S1x80, .i32⟩
  | 39 => ⟨S1x1x80, .i32⟩
  | 40 => ⟨S8x49104x80, .i32⟩
  | 41 => ⟨S8x49104x80, .i32⟩
  | 42 => ⟨S8x49104x80, .i1⟩
  | 43 => ⟨S8x49104x80, .f32⟩
  | 44 => ⟨S8x49104x1, .i1⟩
  | 45 => ⟨S_, .f32⟩
  | 46 => ⟨S8x49104x80, .f32⟩
  | 47 => ⟨S8x49104x80, .i1⟩
  | 48 => ⟨S8x49104x80, .i1⟩
  | 49 => ⟨S8x49104x80, .i1⟩
  | 50 => ⟨S_, .f32⟩
  | 51 => ⟨S_, .f32⟩
  | 52 => ⟨S49104x80, .f32⟩
  | 53 => ⟨S8x49104x80, .f32⟩
  | 54 => ⟨S8x49104x80, .f32⟩
  | 55 => ⟨S_, .f32⟩
  | 56 => ⟨S8x49104x80, .f32⟩
  | 57 => ⟨S8x49104x80, .i1⟩
  | 58 => ⟨S_, .f32⟩
  | 59 => ⟨S_, .f32⟩
  | 60 => ⟨S49104x80, .f32⟩
  | 61 => ⟨S49104x80, .f32⟩
  | 62 => ⟨S8x49104x80, .f32⟩
  | 63 => ⟨S8x49104x80, .f32⟩
  | 64 => ⟨S8x49104x80, .f32⟩
  | 65 => ⟨S_, .f32⟩
  | 66 => ⟨S8x49104x80, .f32⟩
  | 67 => ⟨S8x49104x80, .i1⟩
  | 68 => ⟨S_, .f32⟩
  | 69 => ⟨S8x49104x80, .f32⟩
  | 70 => ⟨S8x49104x80, .f32⟩
  | 71 => ⟨S8x49104x80, .f32⟩
  | 72 => ⟨S_, .f32⟩
  | 73 => ⟨S8x49104x80, .f32⟩
  | 74 => ⟨S8x49104x80, .f32⟩
  | 75 => ⟨S8x49104x80, .f32⟩
  | 76 => ⟨S8x49104x80, .f32⟩
  | 77 => ⟨S8x49104x80, .f32⟩
  | 78 => ⟨S8x49104x80, .f32⟩
  | 79 => ⟨S_, .f32⟩
  | 80 => ⟨S8x49104x80, .f32⟩
  | 81 => ⟨S8x49104x80, .f32⟩
  | 82 => ⟨S_, .f32⟩
  | 83 => ⟨S8x49104x80, .f32⟩
  | 84 => ⟨S8x49104x80, .f32⟩
  | 85 => ⟨S8x49104x80, .f32⟩
  | 86 => ⟨S8x49104x80, .f32⟩
  | 87 => ⟨S8x49104x80, .f32⟩
  | 88 => ⟨S8x49104x80, .f32⟩
  | 89 => ⟨S_, .f32⟩
  | 90 => ⟨S8x49104x80, .f32⟩
  | 91 => ⟨S8x49104x80, .i1⟩
  | 92 => ⟨S8x49104x80, .f32⟩
  | 93 => ⟨S_, .f32⟩
  | 94 => ⟨S_, .f32⟩
  | 95 => ⟨S49104x80, .f32⟩
  | 96 => ⟨S8x49104x80, .f32⟩
  | 97 => ⟨S8x49104x80, .f32⟩
  | 98 => ⟨S8x49104x1, .f32⟩
  | 99 => ⟨S8x49104, .f32⟩
  | 100 => ⟨S8x49104x1, .f32⟩
  | 101 => ⟨S8x49104, .f32⟩
  | 102 => ⟨S8x49104, .f32⟩
  | 103 => ⟨S8x49104x1, .f32⟩
  | 104 => ⟨S8x49104, .f32⟩
  | 105 => ⟨S8x49104x1, .f32⟩
  | 106 => ⟨S8x49104, .f32⟩
  | 107 => ⟨S8x49104, .f32⟩
  | 108 => ⟨S8x49104x1, .f32⟩
  | 109 => ⟨S8x49104, .f32⟩
  | 110 => ⟨S_, .f32⟩
  | 111 => ⟨S8x49104, .f32⟩
  | 112 => ⟨S8x49104, .f32⟩
  | 113 => ⟨S8x49104, .f32⟩
  | 114 => ⟨S8x49104x1, .f32⟩
  | 115 => ⟨S8x49104, .f32⟩
  | 116 => ⟨S_, .f32⟩
  | 117 => ⟨S8x49104, .f32⟩
  | 118 => ⟨S8x49104, .f32⟩
  | 119 => ⟨S8x49104, .f32⟩
  | 120 => ⟨S_, .f32⟩
  | 121 => ⟨S8x49104, .f32⟩
  | 122 => ⟨S8x49104, .f32⟩
  | 123 => ⟨S_, .f32⟩
  | 124 => ⟨S8x49104, .f32⟩
  | 125 => ⟨S8x49104, .f32⟩
  | 126 => ⟨S1x49104, .f32⟩
  | 127 => ⟨S8x49104, .f32⟩
  | _ => ⟨S8x49104x80, .f32⟩

abbrev hbmTy0_2 (i : Nat) : BufTy := match i % 128 with
  | 0 => ⟨S8x49104, .f32⟩
  | 1 => ⟨S1x49104, .f32⟩
  | 2 => ⟨S8x49104, .f32⟩
  | 3 => ⟨S8x49104, .f32⟩
  | 4 => ⟨S1x49104, .f32⟩
  | 5 => ⟨S8x49104, .f32⟩
  | 6 => ⟨S8x49104, .f32⟩
  | 7 => ⟨S1x49104, .f32⟩
  | 8 => ⟨S8x49104, .f32⟩
  | 9 => ⟨S8x49104, .f32⟩
  | 10 => ⟨S1x49104, .f32⟩
  | 11 => ⟨S8x49104, .f32⟩
  | 12 => ⟨S8x49104, .f32⟩
  | 13 => ⟨S8x49104, .f32⟩
  | 14 => ⟨S1x49104, .f32⟩
  | 15 => ⟨S8x49104, .f32⟩
  | 16 => ⟨S8x49104, .f32⟩
  | 17 => ⟨S8x49104, .f32⟩
  | 18 => ⟨S8x49104x1, .f32⟩
  | 19 => ⟨S8x49104x1, .f32⟩
  | 20 => ⟨S8x49104x1, .f32⟩
  | 21 => ⟨S8x49104x1, .f32⟩
  | 22 => ⟨S8x49104x4, .f32⟩
  | 23 => ⟨S8x49104x4, .f32⟩
  | 24 => ⟨S8x49104x4, .f32⟩
  | 25 => ⟨S_, .f32⟩
  | 26 => ⟨S8x49104x4, .f32⟩
  | 27 => ⟨S8x49104x4, .i1⟩
  | 28 => ⟨S8x49104x4, .f32⟩
  | 29 => ⟨S_, .f32⟩
  | 30 => ⟨S8x49104x4, .f32⟩
  | 31 => ⟨S8x49104x4, .f32⟩
  | 32 => ⟨S_, .f32⟩
  | 33 => ⟨S8x49104x4, .f32⟩
  | 34 => ⟨S8x49104x4, .f32⟩
  | 35 => ⟨S8x49104x4, .f32⟩
  | 36 => ⟨S8x49104x1, .i1⟩
  | 37 => ⟨S_, .f32⟩
  | 38 => ⟨S_, .f32⟩
  | 39 => ⟨S8x49104x4, .i1⟩
  | 40 => ⟨S49104x4, .f32⟩
  | 41 => ⟨S8x49104x4, .f32⟩
  | 42 => ⟨S8x49104x4, .f32⟩
  | 43 => ⟨S_, .f32⟩
  | 44 => ⟨S8, .f32⟩
  | 45 => ⟨S_, .f32⟩
  | 46 => ⟨S8, .f32⟩
  | 47 => ⟨S8, .f32⟩
  | 48 => ⟨S8, .f32⟩
  | 49 => ⟨S_, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S_, .f32⟩
  | 59 => ⟨S_, .f32⟩
  | 60 => ⟨S1, .f32⟩
  | 61 => ⟨S_, .f32⟩
  | 62 => ⟨S1, .f32⟩
  | 63 => ⟨S1, .f32⟩
  | 64 => ⟨S_, .f32⟩
  | 65 => ⟨S_, .f32⟩
  | 66 => ⟨S1, .f32⟩
  | 67 => ⟨S_, .f32⟩
  | 68 => ⟨S1, .f32⟩
  | 69 => ⟨S1, .f32⟩
  | _ => ⟨S8x49104x80, .f32⟩

abbrev hbmTy (i : Nat) : BufTy := match i / 128 with
  | 0 => hbmTy0_0 i
  | 1 => hbmTy0_1 i
  | 2 => hbmTy0_2 i
  | _ => ⟨S8x49104x80, .f32⟩

abbrev bufTy : (tb : Table) → Fin (tcTables nBuf tb) → BufTy
  | .hbm, ⟨i, _⟩ => hbmTy i
  | _, _ => ⟨S8x49104x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_3 : Ref sig .tc := ⟨.hbm, 89, rfl⟩
abbrev main_v76 : Ref sig .tc := ⟨.hbm, 90, rfl⟩
abbrev main_v77 : Ref sig .tc := ⟨.hbm, 91, rfl⟩
abbrev main_cst_4 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_5 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_6 : Ref sig .tc := ⟨.hbm, 119, rfl⟩
abbrev main_v103 : Ref sig .tc := ⟨.hbm, 120, rfl⟩
abbrev main_call1_v0 : Ref sig .tc := ⟨.hbm, 121, rfl⟩
abbrev main_call1_cst : Ref sig .tc := ⟨.hbm, 122, rfl⟩
abbrev main_call1_c : Ref sig .tc := ⟨.hbm, 123, rfl⟩
abbrev main_call1_v1_0 : Ref sig .tc := ⟨.hbm, 124, rfl⟩
abbrev main_v104 : Ref sig .tc := ⟨.hbm, 125, rfl⟩
abbrev main_cst_7 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_c : Ref sig .tc := ⟨.hbm, 130, rfl⟩
abbrev main_v108 : Ref sig .tc := ⟨.hbm, 131, rfl⟩
abbrev main_v109 : Ref sig .tc := ⟨.hbm, 132, rfl⟩
abbrev main_c_8 : Ref sig .tc := ⟨.hbm, 133, rfl⟩
abbrev main_v110 : Ref sig .tc := ⟨.hbm, 134, rfl⟩
abbrev main_v111 : Ref sig .tc := ⟨.hbm, 135, rfl⟩
abbrev main_c_9 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_10 : Ref sig .tc := ⟨.hbm, 142, rfl⟩
abbrev main_v117 : Ref sig .tc := ⟨.hbm, 143, rfl⟩
abbrev main_cst_11 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_12 : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_v121 : Ref sig .tc := ⟨.hbm, 154, rfl⟩
abbrev main_v122 : Ref sig .tc := ⟨.hbm, 155, rfl⟩
abbrev main_cst_13 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_call3_v3 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_call4_v3 : Ref sig .tc := ⟨.hbm, 168, rfl⟩
abbrev main_call4_v4 : Ref sig .tc := ⟨.hbm, 169, rfl⟩
abbrev main_call4_v5 : Ref sig .tc := ⟨.hbm, 170, rfl⟩
abbrev main_v127 : Ref sig .tc := ⟨.hbm, 171, rfl⟩
abbrev main_v128 : Ref sig .tc := ⟨.hbm, 172, rfl⟩
abbrev main_cst_14 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_cst_15 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_v133 : Ref sig .tc := ⟨.hbm, 182, rfl⟩
abbrev main_cst_16 : Ref sig .tc := ⟨.hbm, 183, rfl⟩
abbrev main_v134 : Ref sig .tc := ⟨.hbm, 184, rfl⟩
abbrev main_v135 : Ref sig .tc := ⟨.hbm, 185, rfl⟩
abbrev main_cst_17 : Ref sig .tc := ⟨.hbm, 186, rfl⟩
abbrev main_cst_18 : Ref sig .tc := ⟨.hbm, 187, rfl⟩
abbrev main_call6_v0 : Ref sig .tc := ⟨.hbm, 188, rfl⟩
abbrev main_call6_v1 : Ref sig .tc := ⟨.hbm, 189, rfl⟩
abbrev main_call6_v2 : Ref sig .tc := ⟨.hbm, 190, rfl⟩
abbrev main_call6_v3 : Ref sig .tc := ⟨.hbm, 191, rfl⟩
abbrev main_v136 : Ref sig .tc := ⟨.hbm, 192, rfl⟩
abbrev main_cst_19 : Ref sig .tc := ⟨.hbm, 193, rfl⟩
abbrev main_v137 : Ref sig .tc := ⟨.hbm, 194, rfl⟩
abbrev main_v138 : Ref sig .tc := ⟨.hbm, 195, rfl⟩
abbrev main_cst_20 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_21 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_22 : Ref sig .tc := ⟨.hbm, 207, rfl⟩
abbrev main_v148 : Ref sig .tc := ⟨.hbm, 208, rfl⟩
abbrev main_v149 : Ref sig .tc := ⟨.hbm, 209, rfl⟩
abbrev main_cst_23 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_cst_24 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_25 : Ref sig .tc := ⟨.hbm, 221, rfl⟩
abbrev main_call8_v0 : Ref sig .tc := ⟨.hbm, 222, rfl⟩
abbrev main_call8_v1 : Ref sig .tc := ⟨.hbm, 223, rfl⟩
abbrev main_call8_v2 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_cst_26 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_cst_27 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_cst_28 : Ref sig .tc := ⟨.hbm, 248, rfl⟩
abbrev main_v180 : Ref sig .tc := ⟨.hbm, 249, rfl⟩
abbrev main_v181 : Ref sig .tc := ⟨.hbm, 250, rfl⟩
abbrev main_cst_29 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_cst_30 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_cst_31 : Ref sig .tc := ⟨.hbm, 285, rfl⟩
abbrev main_v214 : Ref sig .tc := ⟨.hbm, 286, rfl⟩
abbrev main_v215 : Ref sig .tc := ⟨.hbm, 287, rfl⟩
abbrev main_cst_32 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_cst_33 : Ref sig .tc := ⟨.hbm, 293, rfl⟩
abbrev main_call10_v0 : Ref sig .tc := ⟨.hbm, 294, rfl⟩
abbrev main_call10_v1 : Ref sig .tc := ⟨.hbm, 295, rfl⟩
abbrev main_call10_v2 : Ref sig .tc := ⟨.hbm, 296, rfl⟩
abbrev main_call10_v3 : Ref sig .tc := ⟨.hbm, 297, rfl⟩
abbrev main_v220 : Ref sig .tc := ⟨.hbm, 298, rfl⟩
abbrev main_cst_34 : Ref sig .tc := ⟨.hbm, 299, rfl⟩
abbrev main_v221 : Ref sig .tc := ⟨.hbm, 300, rfl⟩
abbrev main_cst_35 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_cst_36 : Ref sig .tc := ⟨.hbm, 305, rfl⟩
abbrev main_v225 : Ref sig .tc := ⟨.hbm, 306, rfl⟩
abbrev main_cst_37 : Ref sig .tc := ⟨.hbm, 307, rfl⟩
abbrev main_v226 : Ref sig .tc := ⟨.hbm, 308, rfl⟩
abbrev main_v227 : Ref sig .tc := ⟨.hbm, 309, rfl⟩
abbrev main_cst_38 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_cst_39 : Ref sig .tc := ⟨.hbm, 314, rfl⟩
abbrev main_v231 : Ref sig .tc := ⟨.hbm, 315, rfl⟩
abbrev main_v232 : Ref sig .tc := ⟨.hbm, 316, rfl⟩
abbrev main_cst_40 : Ref sig .tc := ⟨.hbm, 317, rfl⟩
abbrev main_v233 : Ref sig .tc := ⟨.hbm, 318, rfl⟩
abbrev main_v234 : Ref sig .tc := ⟨.hbm, 319, rfl⟩
abbrev main_cst_41 : Ref sig .tc := ⟨.hbm, 320, rfl⟩
abbrev main_v235 : Ref sig .tc := ⟨.hbm, 321, rfl⟩
abbrev main_v236 : Ref sig .tc := ⟨.hbm, 322, rfl⟩
abbrev main_cst_42 : Ref sig .tc := ⟨.hbm, 323, rfl⟩
abbrev main_v237 : Ref sig .tc := ⟨.hbm, 324, rfl⟩
abbrev main_v238 : Ref sig .tc := ⟨.hbm, 325, rfl⟩

abbrev nD : Nat := 1
abbrev τ : Topo := Topo.v7x

variable {F : FTy → Type} [FloatOps F]
-- ==== Proof.FocalRegion.lean ====
/- The second kernel region of the program over the extended reals: the focal classification sums.

   The region runs over 64 points, eight blocks of anchors for each of eight images. At each point the body makes one
   number from its four input blocks; the first block of an image stores it, each later one adds it to what the output
   block already holds. This module runs the body once in each of the two cases and gives the region's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Focal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## When a point opens an image -/

/-- The body stores afresh exactly at the points whose number is a multiple of eight. -/
theorem opens_iff : ∀ t : Fin cfg1.N, k1_cond1 (grid1.coords t) = 1#1 ↔ t.val % 8 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [k1_cond1, e0, e1]
    word_cmp
   : ∀ t : Fin grid1.N, k1_cond1 (grid1.coords t) = 1#1 ↔ t.val % 8 = 0)

/-- It adds to the block already there exactly at the other points. -/
theorem extends_iff : ∀ t : Fin cfg1.N, k1_cond2 (grid1.coords t) = 1#1 ↔ t.val % 8 ≠ 0 :=
  (by decide +kernel : ∀ t : Fin grid1.N, k1_cond2 (grid1.coords t) = 1#1 ↔ t.val % 8 ≠ 0)

/-- Every point stores into the output window. -/
theorem never_idle : ∀ t : Fin cfg1.N, cfg1.idle 4 (grid1.coords t) = false :=
  (by decide +kernel : ∀ t : Fin grid1.N, cfg1.idle 4 (grid1.coords t) = false)

/-- At a point that adds, the output buffer holds what the point before left in it. -/
theorem not_fresh : ∀ t : Fin cfg1.N, t.val % 8 ≠ 0 → cfg1.fresh 4 t.val = false := by
  intro t ht
  have key : ∀ n : ℕ, n ≤ cfg1.N → cfg1.fresh 4 n = decide (n % 8 = 0) := fun n hn =>
    Pipeline.Cfg.fresh_tab cfg1 4 (fun n => decide (n % 8 = 0)) rfl
      (by decide +kernel : ∀ t : Fin cfg1.N, decide ((t.val + 1) % 8 = 0)
        = ((cfg1.win 4).flush t || (cfg1.idle 4 (cfg1.grid.coords t) && decide (t.val % 8 = 0)))) n hn
  rw [key t.val (Nat.le_of_lt t.isLt)]
  exact decide_eq_false ht

/-! ## One point's number -/

/-- What a point that opens an image stores: the point's number, over the whole block. -/
def opening (x0 : Vec F S1x80x6144 .f32) (x1 x2 x3 : Vec F S1x1x6144 .f32) : Vec F S1x1x128 .f32 :=
  k1_pay2 (k1_pay5 x0 x1) (k1_pay6 x0 x3) (k1_pay7 x0 x3) (k1_pay8 x2) (k1_pay9 x0 x3) (Scalar.ofBits .f32 0x3F000000#32)

/-- What any other point stores: the block it found plus the point's number. -/
def extending (x0 : Vec F S1x80x6144 .f32) (x1 x2 x3 : Vec F S1x1x6144 .f32) (old : Vec F S1x1x128 .f32) : Vec F S1x1x128 .f32 :=
  k1_pay3 (k1_pay5 x0 x1) (k1_pay6 x0 x3) (k1_pay7 x0 x3) (k1_pay8 x2) (k1_pay9 x0 x3) (Scalar.ofBits .f32 0x3F000000#32) old

/-! ## The body, run -/

set_option maxHeartbeats 1000000 in
/-- The body at a point that opens an image: whatever the output buffer held, it ends at `opening` of the input blocks. -/
theorem run_opening (𝒱₀ : Variants) (c : Dev nD) (i : grid1.Coords) (arg2 : Memref sig .tc .vmem S1x80x6144 .f32) (harg2 : arg2.IsWhole) (arg3 : Memref sig .tc .vmem S1x1x6144 .f32) (harg3 : arg3.IsWhole) (arg4 : Memref sig .tc .vmem S1x1x6144 .f32) (harg4 : arg4.IsWhole) (arg5 : Memref sig .tc .vmem S1x1x6144 .f32) (harg5 : arg5.IsWhole) (arg6 : Memref sig .tc .vmem S1x1x128 .f32) (harg6 : arg6.IsWhole)
    (hc0 : k1_cond1 i = 1#1) (hc1 : ¬k1_cond2 i = 1#1)
    (x0 : Vec F S1x80x6144 .f32) (x1 x2 x3 : Vec F S1x1x6144 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (opening x0 x1 x2 x3)) -∗ K ⟨⟩))
      ⊢ wp frame (wpE (defs₀ (F := F)) 𝒱₀ c none) E (cc1__focal_body i arg2 harg2 arg3 harg3 arg4 harg4 arg5 harg5 arg6 harg6) K := by
  simp only [cc1__focal_body_eq_skeleton]; unfold cc1__focal_body_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _
  isplitr
  swap; · iexact H4
  ipureintro
  rw [View.read_writes_full]
  unfold run_opening.sl.r run_opening.sl.r_1 run_opening.sl.r_2 run_opening.sl.r_3 run_opening.sl.r_4 run_opening.sl.cst_19
  rw [show View.readAt (Elt F) arg2.view (Rect.unit ![0, 0, 0] S1x80x6144.size inb_S1x80x6144_S1x80x6144_0_0_0).toLoadRect (harg2.unread x0) = x0 from (View.readAt_full _ _ _).trans hf0,
    show View.readAt (Elt F) arg3.view (Rect.unit ![0, 0, 0] S1x1x6144.size inb_S1x1x6144_S1x1x6144_0_0_0).toLoadRect (harg3.unread x1) = x1 from (View.readAt_full _ _ _).trans hf1,
    show View.readAt (Elt F) arg4.view (Rect.unit ![0, 0, 0] S1x1x6144.size inb_S1x1x6144_S1x1x6144_0_0_0).toLoadRect (harg4.unread x2) = x2 from (View.readAt_full _ _ _).trans hf2,
    show View.readAt (Elt F) arg5.view (Rect.unit ![0, 0, 0] S1x1x6144.size inb_S1x1x6144_S1x1x6144_0_0_0).toLoadRect (harg5.unread x3) = x3 from (View.readAt_full _ _ _).trans hf3]
  rfl

set_option maxHeartbeats 1000000 in
/-- The body at any other point: the output buffer, held at `old`, ends at `extending` of the input blocks and `old`. -/
theorem run_extending (𝒱₀ : Variants) (c : Dev nD) (i : grid1.Coords) (arg2 : Memref sig .tc .vmem S1x80x6144 .f32) (harg2 : arg2.IsWhole) (arg3 : Memref sig .tc .vmem S1x1x6144 .f32) (harg3 : arg3.IsWhole) (arg4 : Memref sig .tc .vmem S1x1x6144 .f32) (harg4 : arg4.IsWhole) (arg5 : Memref sig .tc .vmem S1x1x6144 .f32) (harg5 : arg5.IsWhole) (arg6 : Memref sig .tc .vmem S1x1x128 .f32) (harg6 : arg6.IsWhole)
    (hc0 : ¬k1_cond1 i = 1#1) (hc1 : k1_cond2 i = 1#1)
    (x0 : Vec F S1x80x6144 .f32) (x1 x2 x3 : Vec F S1x1x6144 .f32) (old : Vec F S1x1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare old
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (extending x0 x1 x2 x3 old)) -∗ K ⟨⟩))
      ⊢ wp frame (wpE (defs₀ (F := F)) 𝒱₀ c none) E (cc1__focal_body i arg2 harg2 arg3 harg3 arg4 harg4 arg5 harg5 arg6 harg6) K := by
  simp only [cc1__focal_body_eq_skeleton]; unfold cc1__focal_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _
  isplitr
  swap; · iexact H4
  ipureintro
  rw [View.read_writes_full]
  unfold run_extending.sl.r run_extending.sl.r_1 run_extending.sl.r_2 run_extending.sl.r_3 run_extending.sl.r_4 run_extending.sl.cst_19
  rw [show View.readAt (Elt F) arg2.view (Rect.unit ![0, 0, 0] S1x80x6144.size inb_S1x80x6144_S1x80x6144_0_0_0).toLoadRect (harg2.unread x0) = x0 from (View.readAt_full _ _ _).trans hf0,
    show View.readAt (Elt F) arg3.view (Rect.unit ![0, 0, 0] S1x1x6144.size inb_S1x1x6144_S1x1x6144_0_0_0).toLoadRect (harg3.unread x1) = x1 from (View.readAt_full _ _ _).trans hf1,
    show View.readAt (Elt F) arg4.view (Rect.unit ![0, 0, 0] S1x1x6144.size inb_S1x1x6144_S1x1x6144_0_0_0).toLoadRect (harg4.unread x2) = x2 from (View.readAt_full _ _ _).trans hf2,
    show View.readAt (Elt F) arg5.view (Rect.unit ![0, 0, 0] S1x1x6144.size inb_S1x1x6144_S1x1x6144_0_0_0).toLoadRect (harg5.unread x3) = x3 from (View.readAt_full _ _ _).trans hf3,
    show View.readAt (Elt F) arg6.view (Rect.unit ![0, 0, 0] S1x1x128.size inb_S1x1x128_S1x1x128_0_0_0).toLoadRect (harg6.unread old) = old from (View.readAt_full _ _ _).trans hf4]
  rfl

/-! ## The proof data -/

variable (𝒱₀ : Variants) (V : (c : Dev nD) → (b : Ref sig .tc) → Buf (Elt F) ((c : Thread nD τ).loc b)) (D : Dev nD → CellTallies nD τ sig Ix)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output buffer holds after the body at point `n`: the opening number at an image's first block, and from then on each
    point's extension of what the point before left. -/
def sums (c : Dev nD) : (n : ℕ) → n < cfg1.N → Vec F S1x1x128 .f32
  | 0, h => opening (iblk V c 0 ⟨0, h⟩) (iblk V c 1 ⟨0, h⟩) (iblk V c 2 ⟨0, h⟩) (iblk V c 3 ⟨0, h⟩)
  | n + 1, h =>
    if (n + 1) % 8 = 0 then opening (iblk V c 0 ⟨n + 1, h⟩) (iblk V c 1 ⟨n + 1, h⟩) (iblk V c 2 ⟨n + 1, h⟩) (iblk V c 3 ⟨n + 1, h⟩)
    else extending (iblk V c 0 ⟨n + 1, h⟩) (iblk V c 1 ⟨n + 1, h⟩) (iblk V c 2 ⟨n + 1, h⟩) (iblk V c 3 ⟨n + 1, h⟩) (sums c n (Nat.lt_of_succ_lt h))

/-- At an image's first block the output buffer is opened. -/
theorem sums_opening (c : Dev nD) (t : Fin cfg1.N) (h : t.val % 8 = 0) :
    sums V c t.val t.isLt = opening (iblk V c 0 t) (iblk V c 1 t) (iblk V c 2 t) (iblk V c 3 t) := by
  obtain ⟨n, hn⟩ := t
  cases n with
  | zero => rfl
  | succ n => exact if_pos h

/-- At its other blocks the output buffer is extended. -/
theorem sums_extending (c : Dev nD) (t : Fin cfg1.N) (h : t.val % 8 ≠ 0) :
    sums V c t.val t.isLt = extending (iblk V c 0 t) (iblk V c 1 t) (iblk V c 2 t) (iblk V c 3 t) (sums V c (t.val - 1) (Nat.lt_of_le_of_lt (Nat.sub_le _ _) t.isLt)) := by
  obtain ⟨n, hn⟩ := t
  cases n with
  | zero => exact absurd (Nat.zero_mod _) h
  | succ n => exact if_neg h

/-- The region's invariant beside its buffers: the scoped rest and the random-number register. -/
def ΦK (c : Dev nD) : sProp 𝕄 :=
  iprop(Pipeline.scopedRest (Ix := Ix) (Name := ℕ) (U := U) (Lvl := Lvl) (Val := Elt F) spec1 c ∗ ∃ r, prngReg c r)

/-- The region's proof data: arrays as found, inputs left in place, the output buffer at `sums`. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => sums V c t.val t.isLt
  Φ _ := ΦK (F := F) (Ix := Ix) (U := U) (Lvl := Lvl) c
  q _ := fullShare
  owed _ := D c

variable (ι : Ix)

/-- Each window's array is as the region finds it. -/
theorem A_eq (c : Dev nD) (w : Fin cfg1.W) : ((dat (Ix := Ix) (U := U) (Lvl := Lvl) V D) c).A w = V c (Pipeline.arrRef spec1 w) := by
  dsimp only [dat]

/-- The output buffer after a point is at `sums`. -/
theorem after_out (c : Dev nD) (t : Fin cfg1.N) : ((dat (Ix := Ix) (U := U) (Lvl := Lvl) V D) c).after 4 t = sums V c t.val t.isLt := by dsimp only [dat]

/-- The body leaves the scores in place. -/
theorem after_in0 (c : Dev nD) (t : Fin cfg1.N) : ((dat (Ix := Ix) (U := U) (Lvl := Lvl) V D) c).after 0 t = iblk V c 0 t := by dsimp only [dat]
/-- The body finds the block of scores. -/
theorem before_in0 (c : Dev nD) (t : Fin cfg1.N) (d) : ((dat (Ix := Ix) (U := U) (Lvl := Lvl) V D) c).before 0 t d = iblk V c 0 t :=
  (((dat (Ix := Ix) (U := U) (Lvl := Lvl) V D) c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)

/-- The body leaves the mask in place. -/
theorem after_in1 (c : Dev nD) (t : Fin cfg1.N) : ((dat (Ix := Ix) (U := U) (Lvl := Lvl) V D) c).after 1 t = iblk V c 1 t := by dsimp only [dat]
/-- The body finds the block of the mask. -/
theorem before_in1 (c : Dev nD) (t : Fin cfg1.N) (d) : ((dat (Ix := Ix) (U := U) (Lvl := Lvl) V D) c).before 1 t d = iblk V c 1 t :=
  (((dat (Ix := Ix) (U := U) (Lvl := Lvl) V D) c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)

/-- The body leaves the matched lanes in place. -/
theorem after_in2 (c : Dev nD) (t : Fin cfg1.N) : ((dat (Ix := Ix) (U := U) (Lvl := Lvl) V D) c).after 2 t = iblk V c 2 t := by dsimp only [dat]
/-- The body finds the block of matched lanes. -/
theorem before_in2 (c : Dev nD) (t : Fin cfg1.N) (d) : ((dat (Ix := Ix) (U := U) (Lvl := Lvl) V D) c).before 2 t d = iblk V c 2 t :=
  (((dat (Ix := Ix) (U := U) (Lvl := Lvl) V D) c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)

/-- The body leaves the classes in place. -/
theorem after_in3 (c : Dev nD) (t : Fin cfg1.N) : ((dat (Ix := Ix) (U := U) (Lvl := Lvl) V D) c).after 3 t = iblk V c 3 t := by dsimp only [dat]
/-- The body finds the block of classes. -/
theorem before_in3 (c : Dev nD) (t : Fin cfg1.N) (d) : ((dat (Ix := Ix) (U := U) (Lvl := Lvl) V D) c).before 3 t d = iblk V c 3 t :=
  (((dat (Ix := Ix) (U := U) (Lvl := Lvl) V D) c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)

/-- At a point that extends, the output buffer is found at what the point before left. -/
theorem before_out (c : Dev nD) (t : Fin cfg1.N) (h : t.val % 8 ≠ 0) (d) :
    ((dat (Ix := Ix) (U := U) (Lvl := Lvl) V D) c).before 4 t d = sums V c (t.val - 1) (Nat.lt_of_le_of_lt (Nat.sub_le _ _) t.isLt) := by
  have carry : ∀ (t : Fin cfg1.N) (_ : t.val ≠ 0), cfg1.idle 4 (grid1.coords t) = true → cfg1.fresh 4 t.val = false →
      ((dat (Ix := Ix) (U := U) (Lvl := Lvl) V D) c).after 4 t = ((dat (Ix := Ix) (U := U) (Lvl := Lvl) V D) c).after 4 ⟨t.val - 1, by omega⟩ := fun t _ hi _ => by
    rw [never_idle t] at hi; exact absurd hi Bool.false_ne_true
  rw [Dat.before_out_traj _ 4 rfl (fun _ _ => rfl) carry t.val t rfl d, if_neg (by rw [not_fresh t h]; exact Bool.false_ne_true)]
  dsimp only [dat]

/-! ## The body's obligation -/

/-- The buffer of the scores at a point. -/
abbrev buf0 (t : Fin cfg1.N) : Memref sig .tc .vmem S1x80x6144 .f32 := win1_0.stage (cfg1.slots t 0)
/-- The buffer of the mask at a point. -/
abbrev buf1 (t : Fin cfg1.N) : Memref sig .tc .vmem S1x1x6144 .f32 := win1_1.stage (cfg1.slots t 1)
/-- The buffer of the matched lanes at a point. -/
abbrev buf2 (t : Fin cfg1.N) : Memref sig .tc .vmem S1x1x6144 .f32 := win1_2.stage (cfg1.slots t 2)
/-- The buffer of the classes at a point. -/
abbrev buf3 (t : Fin cfg1.N) : Memref sig .tc .vmem S1x1x6144 .f32 := win1_3.stage (cfg1.slots t 3)
/-- The buffer of the output at a point. -/
abbrev buf4 (t : Fin cfg1.N) : Memref sig .tc .vmem S1x1x128 .f32 := win1_4.stage (cfg1.slots t 4)

/-- What the body is called with at point `t`. -/
def bodyPre (c : Dev nD) (t : Fin cfg1.N) : sProp 𝕄 :=
  iprop(((dat (Ix := Ix) (U := U) (Lvl := Lvl) V D) c).Φ t.castSucc ∗ ((dat (Ix := Ix) (U := U) (Lvl := Lvl) V D) c).owesAt ι t.castSucc
    ∗ (∃ d, owns (c : Thread nD τ) (buf0 t) fullShare (((dat (Ix := Ix) (U := U) (Lvl := Lvl) V D) c).before 0 t d))
    ∗ (∃ d, owns (c : Thread nD τ) (buf1 t) fullShare (((dat (Ix := Ix) (U := U) (Lvl := Lvl) V D) c).before 1 t d))
    ∗ (∃ d, owns (c : Thread nD τ) (buf2 t) fullShare (((dat (Ix := Ix) (U := U) (Lvl := Lvl) V D) c).before 2 t d))
    ∗ (∃ d, owns (c : Thread nD τ) (buf3 t) fullShare (((dat (Ix := Ix) (U := U) (Lvl := Lvl) V D) c).before 3 t d))
    ∗ (∃ d, owns (c : Thread nD τ) (buf4 t) fullShare (((dat (Ix := Ix) (U := U) (Lvl := Lvl) V D) c).before 4 t d)))

/-- What it returns. -/
def bodyPost (c : Dev nD) (t : Fin cfg1.N) : sProp 𝕄 :=
  iprop(((dat (Ix := Ix) (U := U) (Lvl := Lvl) V D) c).Φ t.succ ∗ ((dat (Ix := Ix) (U := U) (Lvl := Lvl) V D) c).owesAt ι t.succ
    ∗ ((dat (Ix := Ix) (U := U) (Lvl := Lvl) V D) c).leavesExact 0 t ∗ ((dat (Ix := Ix) (U := U) (Lvl := Lvl) V D) c).leavesExact 1 t ∗ ((dat (Ix := Ix) (U := U) (Lvl := Lvl) V D) c).leavesExact 2 t ∗ ((dat (Ix := Ix) (U := U) (Lvl := Lvl) V D) c).leavesExact 3 t ∗ ((dat (Ix := Ix) (U := U) (Lvl := Lvl) V D) c).leavesExact 4 t)

set_option maxHeartbeats 800000 in
/-- The body at any point, from what it is called with to what it returns. -/
theorem sound_body (c : Dev nD) (t : Fin cfg1.N) :
    bodyPre (U := U) (Lvl := Lvl) V D ι c t ⊢ wp frame (wpE (defs₀ (F := F)) 𝒱₀ c none) Set.univ (bodyAt1 t) (fun _ => bodyPost (U := U) (Lvl := Lvl) V D ι c t) := by
  unfold bodyPre bodyPost bodyAt1
  simp only [before_in0, before_in1, before_in2, before_in3]
  rw [show ((dat (Ix := Ix) (U := U) (Lvl := Lvl) V D) c).Φ t.succ = ((dat (Ix := Ix) (U := U) (Lvl := Lvl) V D) c).Φ t.castSucc from rfl,
    show ((dat (Ix := Ix) (U := U) (Lvl := Lvl) V D) c).owesAt ι t.succ = ((dat (Ix := Ix) (U := U) (Lvl := Lvl) V D) c).owesAt ι t.castSucc from rfl,
    show ((dat (Ix := Ix) (U := U) (Lvl := Lvl) V D) c).leavesExact 0 t = owns (c : Thread nD τ) (buf0 t) fullShare (((dat (Ix := Ix) (U := U) (Lvl := Lvl) V D) c).after 0 t) from rfl,
    show ((dat (Ix := Ix) (U := U) (Lvl := Lvl) V D) c).leavesExact 1 t = owns (c : Thread nD τ) (buf1 t) fullShare (((dat (Ix := Ix) (U := U) (Lvl := Lvl) V D) c).after 1 t) from rfl,
    show ((dat (Ix := Ix) (U := U) (Lvl := Lvl) V D) c).leavesExact 2 t = owns (c : Thread nD τ) (buf2 t) fullShare (((dat (Ix := Ix) (U := U) (Lvl := Lvl) V D) c).after 2 t) from rfl,
    show ((dat (Ix := Ix) (U := U) (Lvl := Lvl) V D) c).leavesExact 3 t = owns (c : Thread nD τ) (buf3 t) fullShare (((dat (Ix := Ix) (U := U) (Lvl := Lvl) V D) c).after 3 t) from rfl,
    show ((dat (Ix := Ix) (U := U) (Lvl := Lvl) V D) c).leavesExact 4 t = owns (c : Thread nD τ) (buf4 t) fullShare (((dat (Ix := Ix) (U := U) (Lvl := Lvl) V D) c).after 4 t) from by
      unfold Dat.leavesExact; rw [never_idle t],
    after_in0, after_in1, after_in2, after_in3, after_out]
  by_cases h : t.val % 8 = 0
  · rw [sums_opening V c t h]
    iintro ⟨HΦ, Ho, ⟨%d0, H0⟩, ⟨%d1, H1⟩, ⟨%d2, H2⟩, ⟨%d3, H3⟩, ⟨%d4, H4⟩⟩
    iapply (run_opening (Ix := Ix) (U := U) (Lvl := Lvl) 𝒱₀ c (grid1.coords t) _ _ _ _ _ _ _ _ _ _ ((opens_iff t).mpr h) (fun h' => (extends_iff t).mp h' h) (iblk V c 0 t) (iblk V c 1 t) (iblk V c 2 t) (iblk V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [sums_extending V c t h]
    simp only [before_out V D c t h]
    iintro ⟨HΦ, Ho, ⟨%d0, H0⟩, ⟨%d1, H1⟩, ⟨%d2, H2⟩, ⟨%d3, H3⟩, ⟨%d4, H4⟩⟩
    iapply (run_extending (Ix := Ix) (U := U) (Lvl := Lvl) 𝒱₀ c (grid1.coords t) _ _ _ _ _ _ _ _ _ _ (fun h' => h ((opens_iff t).mp h')) ((extends_iff t).mpr h) (iblk V c 0 t) (iblk V c 1 t) (iblk V c 2 t) (iblk V c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body's obligation to the pipeline, at every point. -/
theorem body_obligation (c : Dev nD) : BodyObligation ((dat (Ix := Ix) (U := U) (Lvl := Lvl) V D) c) (defs₀ (F := F)) 𝒱₀ ι Set.univ := fun t => by
  rw [bigSep_W1, bigSep_W1, show defs₀ (F := F) .tc cfg1.body (cfg1.bodyArgs t (cfg1.slots t)) = bodyAt1 t from by
    unfold defs₀; rw [Defs.onTc_tc]]
  exact triple_restated (sound_body 𝒱₀ V D ι c t) rfl .rfl fun _ => .rfl

end Cert.KernelIdeal.Focal

end
-- ==== Proof.LaunchIdeal.lean ====
/- The launch of the program over the extended reals: both kernel regions entered and left, and what the run leaves.

   Each region runs over its own arrays, entered from what the host operations before it left. The valuation after the
   whole program, the two kernel regions' outputs put in place, is `last`; the run ends with the two results at `last`, the
   arguments as they were and every semaphore at zero. -/
module

public import proofs.«01_k».proof.Proof.Gen.KernelIdeal.Regions
public import proofs.«01_k».proof.Proof.Gen.Own.KernelIdeal.K0.Frame
public import proofs.«01_k».proof.Proof.FocalRegion
public import Idealize.ShloMosaic.Lib.Pipeline.RegionArrays

@[expose] public section

set_option maxRecDepth 2048

noncomputable section

namespace Cert.KernelIdeal.Launched

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The ghost algebra: one round for each staging cell, beside a trivial part. -/
abbrev UU : Type := UR sig nD τ × UR sig nD τ

local notation "𝕄" => MT nD τ sig Unit (Elt F) ℕ UU ℕ

/-- The rounds' embedding. -/
abbrev EP : Emb (UR sig nD τ) (MT nD τ sig Unit (Elt F) ℕ UU ℕ) := embL

/-- No loop needs a variant. -/
abbrev 𝒱₀ : Variants := Variants.none

/-- The one obligation index, at the TensorCore's semaphores. -/
def L (g : GSem nD τ sig) : Finset Unit := if g.1.2 = .tc then {()} else ∅
/-- Every level is zero. -/
def lv (_ : GSem nD τ sig) (_ : Unit) : ℕ := 0

/-- Nothing is owed while a region runs. -/
abbrev D0 (_ : Dev nD) : CellTallies nD τ sig Unit := 0

/-- Nothing is owed at either region. -/
theorem cut (p : Fin 2) : Pipeline.LevelCut (pcfgs (F := F)) adm () L lv p D0 (fun _ => 0) where
  hι := fun c w s => by
    unfold L
    rw [if_pos rfl]
    exact Finset.mem_singleton_self _
  hιb := fun _ _ _ => Nat.le_refl _
  hD := fun _ _ _ h => absurd h (Nat.lt_irrefl _)

/-! ## What the regions leave -/

section
variable (m : (ℓ : Loc nD τ sig) → Buf (Elt F) ℓ)

/-- The first region's entry contents. -/
abbrev entry0 (c : Dev nD) (b : Ref sig .tc) : Buf (Elt F) ((c : Thread nD τ).loc b) := V17 m c (Proc.devRef .tc b)

/-- The first region's proof data. -/
abbrev dat0 (c : Dev nD) : Dat τ (Elt F) Unit ℕ UU ℕ cfg0 c := Own.K0.dat 𝒱₀ (entry0 m) D0 c

/-- The buffers after the first region: its five output arrays as its run left them. -/
def after0 (c : Dev nD) : Valuation τ sig (Elt F) :=
  Function.update (Function.update (Function.update (Function.update (Function.update (V17 m c)
    (Proc.devRef .tc main_v37_0) ((dat0 m c).arrAt 9 cfg0.N))
    (Proc.devRef .tc main_v37_1) ((dat0 m c).arrAt 10 cfg0.N))
    (Proc.devRef .tc main_v37_2) ((dat0 m c).arrAt 11 cfg0.N))
    (Proc.devRef .tc main_v37_3) ((dat0 m c).arrAt 12 cfg0.N))
    (Proc.devRef .tc main_v37_4) ((dat0 m c).arrAt 13 cfg0.N)

/-- The first region's outputs read off `after0`. -/
def outs0 : Outs (F := F) := fun _ r c => after0 m c (Proc.devRef .tc r)

/-- The second region's entry contents. -/
abbrev entry1 (c : Dev nD) (b : Ref sig .tc) : Buf (Elt F) ((c : Thread nD τ).loc b) := V21 m (outs0 m) c (Proc.devRef .tc b)

/-- The second region's proof data. -/
abbrev dat1 (c : Dev nD) : Dat τ (Elt F) Unit ℕ UU ℕ cfg1 c := Focal.dat (entry1 m) D0 c

/-- Both regions' outputs. -/
def outs : Outs (F := F) := fun k r c =>
  if k = 22 then Function.update (V21 m (outs0 m) c) (Proc.devRef .tc main_v43) ((dat1 m c).arrAt 4 cfg1.N) (Proc.devRef .tc r)
  else outs0 m k r c

/-- The buffers after the whole program. -/
def last (c : Dev nD) : Valuation τ sig (Elt F) := V23 m (outs m) c

/-- The proof-data family. -/
def pdats : (p : Fin 2) → (c : Dev nD) → Dat τ (Elt F) Unit ℕ UU ℕ (cfgs p) c
  | ⟨0, _⟩ => dat0 m
  | ⟨1, _⟩ => dat1 m

/-- The mask after the first region. -/
theorem after0_0 (c : Dev nD) : after0 m c (Proc.devRef .tc main_v37_0) = (dat0 m c).arrAt 9 cfg0.N := by
  unfold after0
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_self]

/-- The matched lanes after the first region. -/
theorem after0_1 (c : Dev nD) : after0 m c (Proc.devRef .tc main_v37_1) = (dat0 m c).arrAt 10 cfg0.N := by
  unfold after0
  rw [Function.update_of_ne (StableHlo.devRef_ne_of_ne (by decide)), Function.update_of_ne (StableHlo.devRef_ne_of_ne (by decide)),
    Function.update_of_ne (StableHlo.devRef_ne_of_ne (by decide)), Function.update_self]

/-- The classes after the first region. -/
theorem after0_2 (c : Dev nD) : after0 m c (Proc.devRef .tc main_v37_2) = (dat0 m c).arrAt 11 cfg0.N := by
  unfold after0
  rw [Function.update_of_ne (StableHlo.devRef_ne_of_ne (by decide)), Function.update_of_ne (StableHlo.devRef_ne_of_ne (by decide)),
    Function.update_self]

/-- The regression losses after the first region. -/
theorem after0_3 (c : Dev nD) : after0 m c (Proc.devRef .tc main_v37_3) = (dat0 m c).arrAt 12 cfg0.N := by
  unfold after0
  rw [Function.update_of_ne (StableHlo.devRef_ne_of_ne (by decide)), Function.update_self]

/-- The counts after the first region. -/
theorem after0_4 (c : Dev nD) : after0 m c (Proc.devRef .tc main_v37_4) = (dat0 m c).arrAt 13 cfg0.N := by
  unfold after0
  rw [Function.update_self]

/-- The valuation the host program has after the first region is `after0`. -/
theorem V18_eq (c : Dev nD) : V18 m (outs m) c = after0 m c := by
  have e : ∀ r, outs m 18 r c = after0 m c (Proc.devRef .tc r) := fun r => by
    unfold outs outs0
    rw [if_neg (by decide)]
  unfold V18
  rw [e, e, e, e, e, after0_0, after0_1, after0_2, after0_3, after0_4]
  rfl

/-- The contents after the first region, from the first region's output alone. -/
theorem V18_eq' (c : Dev nD) : V18 m (outs0 m) c = after0 m c := by
  have e : ∀ r, outs0 m 18 r c = after0 m c (Proc.devRef .tc r) := fun r => rfl
  unfold V18
  rw [e, e, e, e, e, after0_0, after0_1, after0_2, after0_3, after0_4]
  rfl

/-- What enters the second region does not depend on what it leaves. -/
theorem V21_eq (c : Dev nD) : V21 m (outs m) c = V21 m (outs0 m) c := by
  unfold V21 V20 V19
  rw [V18_eq, V18_eq']

/-- The second region's output. -/
theorem V22_out (c : Dev nD) : V22 m (outs m) c (Proc.devRef .tc main_v43) = (dat1 m c).arrAt 4 cfg1.N := by
  unfold V22
  rw [Function.update_self]
  unfold outs
  rw [if_pos rfl, Function.update_self]

/-! ## The regions' records -/

/-- Each array of the first region is among its arrays. -/
theorem mem0 (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- Each array of the second region is among its arrays. -/
theorem mem1 (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- The first region's arrays are held between the regions. -/
theorem held0 : Pipeline.arrRefs (τ := τ) spec0 ⊆ Pipeline.ucRefs τ sig := Pipeline.arrRefs_sub_ucRefs spec0 (by decide)
/-- The second region's arrays are held between the regions. -/
theorem held1 : Pipeline.arrRefs (τ := τ) spec1 ⊆ Pipeline.ucRefs τ sig := Pipeline.arrRefs_sub_ucRefs spec1 (by decide)

/-- The first region changes none but its own arrays. -/
theorem rest0 (c : Dev nD) : ∀ b ∈ (Pipeline.ucRefs τ sig) \ Pipeline.arrRefs (τ := τ) spec0, after0 m c b = V17 m c b := fun b hb => by
  have hn : b ∉ Pipeline.arrRefs (τ := τ) spec0 := (Finset.mem_sdiff.mp hb).2
  unfold after0
  rw [Function.update_of_ne (by rintro rfl; exact hn (mem0 13)), Function.update_of_ne (by rintro rfl; exact hn (mem0 12)),
    Function.update_of_ne (by rintro rfl; exact hn (mem0 11)), Function.update_of_ne (by rintro rfl; exact hn (mem0 10)),
    Function.update_of_ne (by rintro rfl; exact hn (mem0 9))]

/-- The second region changes none but its own arrays. -/
theorem rest1 (c : Dev nD) : ∀ b ∈ (Pipeline.ucRefs τ sig) \ Pipeline.arrRefs (τ := τ) spec1,
    V22 m (outs m) c b = V21 m (outs m) c b := fun b hb => by
  have hn : b ∉ Pipeline.arrRefs (τ := τ) spec1 := (Finset.mem_sdiff.mp hb).2
  unfold V22
  rw [Function.update_of_ne (by rintro rfl; exact hn (mem1 4))]

/-- A buffer the first region does not write. -/
theorem after0_of (c : Dev nD) (r : Ref sig .tc) (h : r ∉ ([main_v37_0, main_v37_1, main_v37_2, main_v37_3, main_v37_4] : List (Ref sig .tc))) :
    after0 m c (Proc.devRef .tc r) = V17 m c (Proc.devRef .tc r) := by
  rw [← V18_eq]
  exact V18_of m (outs m) c r h

/-- An input array of the first region ends as it began. -/
theorem keeps0 (c : Dev nD) (w : Fin cfg0.W) (hw : (cfg0.win w).isOut = false)
    (hr : Pipeline.arrRef spec0 w ∉ ([main_v37_0, main_v37_1, main_v37_2, main_v37_3, main_v37_4] : List (Ref sig .tc))) :
    (dat0 m c).arrAt w cfg0.N = after0 m c (Proc.devRef .tc (Pipeline.arrRef spec0 w)) :=
  ((dat0 m c).arrAt_in w hw _).trans ((Own.K0.A_eq (Ix := Unit) (U := UU) (Lvl := ℕ) 𝒱₀ (entry0 m) D0 c w).trans (after0_of m c _ hr).symm)

/-- Every array of the first region ends at `after0`. -/
theorem exit0 (c : Dev nD) : ∀ w : Fin cfg0.W, (dat0 m c).arrAt w cfg0.N = after0 m c (Proc.devRef .tc (Pipeline.arrRef spec0 w))
  | 0 => keeps0 m c 0 rfl (by decide)
  | 1 => keeps0 m c 1 rfl (by decide)
  | 2 => keeps0 m c 2 rfl (by decide)
  | 3 => keeps0 m c 3 rfl (by decide)
  | 4 => keeps0 m c 4 rfl (by decide)
  | 5 => keeps0 m c 5 rfl (by decide)
  | 6 => keeps0 m c 6 rfl (by decide)
  | 7 => keeps0 m c 7 rfl (by decide)
  | 8 => keeps0 m c 8 rfl (by decide)
  | 9 => (after0_0 m c).symm
  | 10 => (after0_1 m c).symm
  | 11 => (after0_2 m c).symm
  | 12 => (after0_3 m c).symm
  | 13 => (after0_4 m c).symm

/-- An input array of the second region ends as it began. -/
theorem keeps1 (c : Dev nD) (w : Fin cfg1.W) (hw : (cfg1.win w).isOut = false)
    (hr : Pipeline.arrRef spec1 w ∉ ([main_v43] : List (Ref sig .tc))) :
    (dat1 m c).arrAt w cfg1.N = V22 m (outs m) c (Proc.devRef .tc (Pipeline.arrRef spec1 w)) :=
  ((dat1 m c).arrAt_in w hw _).trans ((Focal.A_eq (Ix := Unit) (U := UU) (Lvl := ℕ) (entry1 m) D0 c w).trans
    ((V22_of m (outs m) c _ hr).trans (congrFun (V21_eq m c) _)).symm)

/-- Every array of the second region ends at the valuation after it. -/
theorem exit1 (c : Dev nD) : ∀ w : Fin cfg1.W, (dat1 m c).arrAt w cfg1.N = V22 m (outs m) c (Proc.devRef .tc (Pipeline.arrRef spec1 w))
  | 0 => keeps1 m c 0 rfl (by decide)
  | 1 => keeps1 m c 1 rfl (by decide)
  | 2 => keeps1 m c 2 rfl (by decide)
  | 3 => keeps1 m c 3 rfl (by decide)
  | 4 => (V22_out m c).symm

/-- What a core holds beside its buffers between the regions. -/
def rest (_ : Fin 3) (c : Dev nD) : sProp 𝕄 := iprop((∃ r, prngReg c r) ∗ (∃ W, owes (c : Thread nD τ) (D0 c) W))

set_option backward.isDefEq.respectTransparency.types false in
/-- The first region's record. -/
def region0 : RegionSeg (pcfgs (F := F)) adm (pdats m) () defs₀ 𝒱₀ L lv 0 :=
  Pipeline.RegionSeg.ofHeld (pcfgs (F := F)) adm (pdats m) () defs₀ 𝒱₀ L lv 0 D0
    (fun c => iprop(∃ r, prngReg c r)) (fun c => iprop(∃ r, prngReg c r))
    launch0.toP rfl
    (fun c => (Own.K0.body_obligation (U := UU) (Lvl := ℕ) 𝒱₀ (entry0 m) D0 () c).loose) (fun _ _ => rfl) (fun _ => rfl)
    (fun c => (dat0 m c).share_full fun _ => rfl) (fun _ => .rfl) (fun _ => .rfl) (fun _ => 0) (cut 0)
    (fun c => StableHlo.held (c : Thread nD τ) ((Pipeline.ucRefs τ sig) \ Pipeline.arrRefs (τ := τ) spec0) (V17 m c))
    (V17 m) (after0 m) (fun _ _ => rfl) (fun c w => exit0 m c w)

set_option backward.isDefEq.respectTransparency.types false in
/-- The second region's record. -/
def region1 : RegionSeg (pcfgs (F := F)) adm (pdats m) () defs₀ 𝒱₀ L lv 1 :=
  Pipeline.RegionSeg.ofHeld (pcfgs (F := F)) adm (pdats m) () defs₀ 𝒱₀ L lv 1 D0
    (fun c => iprop(∃ r, prngReg c r)) (fun c => iprop(∃ r, prngReg c r))
    launch1.toP rfl
    (fun c => (Focal.body_obligation (U := UU) (Lvl := ℕ) 𝒱₀ (entry1 m) D0 () c).loose) (fun _ _ => rfl) (fun _ => rfl)
    (fun c => (dat1 m c).share_full fun _ => rfl) (fun _ => .rfl) (fun _ => .rfl) (fun _ => 0) (cut 1)
    (fun c => StableHlo.held (c : Thread nD τ) ((Pipeline.ucRefs τ sig) \ Pipeline.arrRefs (τ := τ) spec1) (V21 m (outs0 m) c))
    (V21 m (outs0 m)) (V22 m (outs m)) (fun _ _ => rfl) (fun c w => exit1 m c w)

/-- The first region is entered from what is held before it. -/
theorem enter0 (c : Dev nD) :
    iprop(StableHlo.held (c : Thread nD τ) (Pipeline.ucRefs τ sig) (V17 m c) ∗ rest 0 c) ⊢ (region0 m).pre c := by
  show _ ⊢ iprop(StableHlo.held (c : Thread nD τ) (Pipeline.arrRefs (τ := τ) spec0) (V17 m c) ∗ (∃ r, prngReg c r)
    ∗ StableHlo.held (c : Thread nD τ) ((Pipeline.ucRefs τ sig) \ Pipeline.arrRefs (τ := τ) spec0) (V17 m c) ∗ ∃ W, owes (c : Thread nD τ) (D0 c) W)
  unfold rest
  rw [StableHlo.held_sub_split (c : Thread nD τ) held0 (V17 m c)]
  iintro ⟨⟨Ha, Hr⟩, Hp, Ho⟩
  isplitl [Ha]; · iexact Ha
  isplitl [Hp]; · iexact Hp
  isplitl [Hr]; · iexact Hr
  iexact Ho

/-- The first region leaves what is held after it. -/
theorem leave0 (c : Dev nD) :
    (region0 m).post c ⊢ iprop(StableHlo.held (c : Thread nD τ) (Pipeline.ucRefs τ sig) (V18 m (outs m) c) ∗ rest 1 c) := by
  show iprop(StableHlo.held (c : Thread nD τ) (Pipeline.arrRefs (τ := τ) spec0) (after0 m c) ∗ (∃ r, prngReg c r)
    ∗ StableHlo.held (c : Thread nD τ) ((Pipeline.ucRefs τ sig) \ Pipeline.arrRefs (τ := τ) spec0) (V17 m c) ∗ ∃ W, owes (c : Thread nD τ) (D0 c) W) ⊢ _
  unfold rest
  rw [V18_eq, StableHlo.held_sub_split (c : Thread nD τ) held0 (after0 m c),
    StableHlo.held_congr (c : Thread nD τ) (S := (Pipeline.ucRefs τ sig) \ Pipeline.arrRefs (τ := τ) spec0) (rest0 m c)]
  iintro ⟨Ha, Hp, Hr, Ho⟩
  isplitl [Ha Hr]; · isplitl [Ha] <;> iassumption
  isplitl [Hp]; · iexact Hp
  iexact Ho

/-- The second region is entered from what is held before it. -/
theorem enter1 (c : Dev nD) :
    iprop(StableHlo.held (c : Thread nD τ) (Pipeline.ucRefs τ sig) (V21 m (outs m) c) ∗ rest 1 c) ⊢ (region1 m).pre c := by
  show _ ⊢ iprop(StableHlo.held (c : Thread nD τ) (Pipeline.arrRefs (τ := τ) spec1) (V21 m (outs0 m) c) ∗ (∃ r, prngReg c r)
    ∗ StableHlo.held (c : Thread nD τ) ((Pipeline.ucRefs τ sig) \ Pipeline.arrRefs (τ := τ) spec1) (V21 m (outs0 m) c) ∗ ∃ W, owes (c : Thread nD τ) (D0 c) W)
  unfold rest
  rw [V21_eq, StableHlo.held_sub_split (c : Thread nD τ) held1 (V21 m (outs0 m) c)]
  iintro ⟨⟨Ha, Hr⟩, Hp, Ho⟩
  isplitl [Ha]; · iexact Ha
  isplitl [Hp]; · iexact Hp
  isplitl [Hr]; · iexact Hr
  iexact Ho

/-- The second region leaves what is held after it. -/
theorem leave1 (c : Dev nD) :
    (region1 m).post c ⊢ iprop(StableHlo.held (c : Thread nD τ) (Pipeline.ucRefs τ sig) (V22 m (outs m) c) ∗ rest 2 c) := by
  show iprop(StableHlo.held (c : Thread nD τ) (Pipeline.arrRefs (τ := τ) spec1) (V22 m (outs m) c) ∗ (∃ r, prngReg c r)
    ∗ StableHlo.held (c : Thread nD τ) ((Pipeline.ucRefs τ sig) \ Pipeline.arrRefs (τ := τ) spec1) (V21 m (outs0 m) c) ∗ ∃ W, owes (c : Thread nD τ) (D0 c) W) ⊢ _
  unfold rest
  rw [StableHlo.held_sub_split (c : Thread nD τ) held1 (V22 m (outs m) c),
    StableHlo.held_congr (c : Thread nD τ) (S := (Pipeline.ucRefs τ sig) \ Pipeline.arrRefs (τ := τ) spec1) (rest1 m c), V21_eq]
  iintro ⟨Ha, Hp, Hr, Ho⟩
  isplitl [Ha Hr]; · isplitl [Ha] <;> iassumption
  isplitl [Hp]; · iexact Hp
  iexact Ho

/-! ## The run -/

/-- What a launch hands one core makes the state it starts from. -/
theorem starts (ρ : Dev nD → PrngReg) (c : Dev nD) :
    iprop((unscopedSems0 c ∗ owes (c : Thread nD τ) (0 : CellTallies nD τ sig Unit) ∅ ∗ Pipeline.launchCred (fun _ => 0) c ∗ prngReg c (ρ c) ∗ BI.emp) ∗ levAts L lv)
      ⊢ (|={Set.univ}=> rest 0 c : sProp 𝕄) := by
  unfold rest
  iintro ⟨⟨-, Ho, -, Hp, -⟩, -⟩
  imodintro
  isplitl [Hp]; · iexists _; iexact Hp
  iexists _; iexact Ho

set_option backward.isDefEq.respectTransparency.types false in
/-- The run: the two results at `last`, the arguments unchanged, every semaphore at zero. -/
theorem run (ρ : Dev nD → PrngReg) :
    θ_run defs (onTc (τ := τ) (main (F := F))) ⟨m, fun _ => 0, ρ⟩ (fun r => (∀ c : Dev nD,
      r.2.mem ((c.tc : Thread nD τ).loc main_v54) = last m c (Proc.devRef .tc main_v54)
      ∧ r.2.mem ((c.tc : Thread nD τ).loc main_v65) = last m c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) adm (pdats m) () cellOf_inj EP defs₀ 𝒱₀ L lv m ρ main
    (segs m (outs m) 𝒱₀ L lv rest () (pdats m) (region0 m) (region1 m))
    (fun c Q => by
      rewrite [main_chain c, Seg.run_eq_chain,
        show (segs m (outs m) 𝒱₀ L lv rest () (pdats m) (region0 m) (region1 m) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14, StableHlo.seq hostOps0_15,
          StableHlo.seq hostOps0_16, Prog.lift (.customCall (Pipeline.entry 0) ()),
          StableHlo.seq hostOps1, StableHlo.seq hostOps1_1, StableHlo.seq hostOps1_2,
          Prog.lift (.customCall (Pipeline.entry 1) ()), StableHlo.seq hostOps2 ] from rfl]
      dsimp (config := { failIfUnchanged := false }) only
      exact .rfl)
    (fun c => by simp only [segs, Seg.pipes_host, Seg.pipes_region, Seg.pipes_nil]; decide) (fun _ => 0)
    (fun g h => if_neg h) (fun _ => BI.emp)
    ((initOf (Pipeline.cells cfgs cellOf_inj) (Pipeline.launchToks cfgs cellOf_inj), 1) : UU) ?_
    (T₀ := fun c => iprop(StableHlo.held (c : Thread nD τ) (Pipeline.ucRefs τ sig) (V0 m c) ∗ rest 0 c))
    (Tₙ := fun c => StableHlo.held (c : Thread nD τ) (Pipeline.ucRefs τ sig) (V23 m (outs m) c))
    (hch := fun c => ⟨.rfl, .rfl, .rfl, .rfl, .rfl, .rfl, .rfl, .rfl, .rfl, .rfl, .rfl, .rfl, .rfl, .rfl, .rfl, .rfl, .rfl,
      enter0 m c, leave0 m c, .rfl, .rfl, enter1 m c, leave1 m c, sep_mono .rfl ?_⟩)
    (hinit := ?_)
    (QY := fun c s => s.mem ((c.tc : Thread nD τ).loc main_v54) = last m c (Proc.devRef .tc main_v54)
      ∧ s.mem ((c.tc : Thread nD τ).loc main_v65) = last m c (Proc.devRef .tc main_v65)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · unfold rest
    iintro ⟨-, Ho⟩
    iexact Ho
  · refine Pipeline.initEach L lv fun c => ?_
    rw [← Pipeline.unscopedBufs_held (Ix := Unit) (Name := ℕ) (U := UU) (Lvl := ℕ) c (V0 m c)]
    iintro ⟨⟨Hb, Hr⟩, Hl⟩
    imod (starts ρ c) $$ [Hr Hl] with HE
    · isplitl [Hr]; · iexact Hr
      iexact Hl
    imodintro
    isplitl [Hb]; · iexact Hb
    iexact HE
  · unfold StableHlo.held
    iintro ⟨Hh, HSI⟩
    ihave Hr := (pointsTo_read_all (Pipeline.ucRefs τ sig) (fun b => ((c : Thread nD τ).1, b)) (V23 m (outs m) c) s') $$ [Hh HSI]
    · isplitl [Hh] <;> iassumption
    icases Hr with ⟨%h, HSI⟩
    imodintro
    isplitr
    · ipureintro
      have at_ : ∀ r : Ref sig .tc, (Proc.devRef .tc r : DevRef τ sig) ∈ Pipeline.ucRefs τ sig →
          s'.mem.mem ((c.tc : Thread nD τ).loc r) = V23 m (outs m) c (Proc.devRef .tc r) := fun r hr => h (Proc.devRef .tc r) hr
      have uc : ∀ r : Ref sig .tc, (Proc.devRef .tc r : DevRef τ sig).isScoped = false → (Proc.devRef .tc r : DevRef τ sig) ∈ Pipeline.ucRefs τ sig :=
        fun r hr => Finset.mem_filter.mpr ⟨StableHlo.devRef_mem_tcRefs r, by simpa using hr⟩
      exact ⟨at_ main_v54 (uc _ rfl), at_ main_v65 (uc _ rfl),
        (at_ main_arg0 (uc _ rfl)).trans (V23_main_arg0 m (outs m) c),
        (at_ main_arg1 (uc _ rfl)).trans (V23_main_arg1 m (outs m) c),
        (at_ main_arg2 (uc _ rfl)).trans (V23_main_arg2 m (outs m) c),
        (at_ main_arg3 (uc _ rfl)).trans (V23_main_arg3 m (outs m) c)⟩
    · iexact HSI

end

end Cert.KernelIdeal.Launched
-- ==== Proof.Words.lean ====
module
public import Idealize.ShloMosaic.PureOps.Ideal
public import Idealize.ShloMosaic.PureOps.Ideal.Laws
public import Idealize.ShloMosaic.Lib.IdealHost

/-! The real numbers that the float constants of the two programs denote, and choices by predicate bits. -/

@[expose] public section
namespace Cert.Words
open Idealize.ShloMosaic

/-- A normal word with its sign, exponent and fraction fields named denotes the scaled significand. -/
theorem normal (b : BitVec 32) (s : ℝ) (ex fr : ℕ) (h : (b.extractLsb' 23 8).toNat = ex) (hf : (b.extractLsb' 0 23).toNat = fr)
    (hs : (if (b.extractLsb' 31 1 == 1#1) then (-1 : ℝ) else 1) = s) (h0 : ex ≠ 0) (h1 : ex ≠ 255) :
    Ideal.ofBits .f32 b = ((s * (2 ^ 23 + fr : ℕ) * (2 : ℝ) ^ ((ex : ℤ) - 127 - 23) : ℝ) : EReal) := by
  show Ideal.ieee 8 23 b = _
  unfold Ideal.ieee
  simp only [h, hf]
  rw [if_neg (by norm_num; exact h1), if_neg h0]
  rw [← hs]
  norm_num

/-- The word of minus one. -/
theorem minus_one : Ideal.ofBits .f32 0xBF800000#32 = ((-1 : ℝ) : EReal) := by
  rw [normal _ (-1) 127 0 (by decide) (by decide) (by simp) (by decide) (by decide)]
  norm_num

/-- The word of one half. -/
theorem half : Ideal.ofBits .f32 0x3F000000#32 = ((1 / 2 : ℝ) : EReal) := by
  rw [normal _ 1 126 0 (by decide) (by decide) (by simp) (by decide) (by decide)]
  norm_num

/-- The word of minus one half. -/
theorem minus_half : Ideal.ofBits .f32 0xBF000000#32 = ((-(1 / 2) : ℝ) : EReal) := by
  rw [normal _ (-1) 126 0 (by decide) (by decide) (by simp) (by decide) (by decide)]
  norm_num

/-- The word of two. -/
theorem two : Ideal.ofBits .f32 0x40000000#32 = ((2 : ℝ) : EReal) := by
  rw [normal _ 1 128 0 (by decide) (by decide) (by simp) (by decide) (by decide)]
  norm_num

/-- The word of zero. -/
theorem zero : Ideal.ofBits .f32 0x00000000#32 = 0 := by
  simp [Ideal.ofBits, Ideal.ieee]

/-- The word of one. -/
theorem one : Ideal.ofBits .f32 0x3F800000#32 = 1 := by
  rw [normal _ 1 127 0 (by decide) (by decide) (by simp) (by decide) (by decide)]
  norm_num

/-- The word of minus infinity. -/
theorem bot : Ideal.ofBits .f32 0xFF800000#32 = ⊥ := by
  simp [Ideal.ofBits, Ideal.ieee]

/-- The smallest union is positive. -/
theorem least_pos : (0 : EReal) < Ideal.ofBits .f32 0x322BCC77#32 := by
  rw [normal _ 1 100 2870391 (by decide) (by decide) (by simp) (by decide) (by decide)]
  rw [← EReal.coe_zero, EReal.coe_lt_coe_iff]
  positivity

/-- The lower end of the clipped scores, a real above zero. -/
theorem low : ∃ r : ℝ, Ideal.ofBits .f32 0x38D1B717#32 = (r : EReal) ∧ 0 < r ∧ r < 1 := by
  refine ⟨_, normal _ 1 113 5355287 (by decide) (by decide) (by simp) (by decide) (by decide), by positivity, by norm_num⟩

/-- The upper end of the clipped scores, a real below one. -/
theorem high : ∃ r : ℝ, Ideal.ofBits .f32 0x3F7FF972#32 = (r : EReal) ∧ 0 < r ∧ r < 1 := by
  refine ⟨_, normal _ 1 126 8386930 (by decide) (by decide) (by simp) (by decide) (by decide), by positivity, by norm_num⟩

/-- The predicate bit of a decided proposition under a conjunction. -/
theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The predicate bit of a decided proposition under a disjunction. -/
theorem ori_ite (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

/-- A decided proposition's bit written as a choice. -/
theorem ofBool_ite (p : Prop) [Decidable p] : BitVec.ofBool (decide p) = if p then 1#1 else 0#1 := by
  by_cases hp : p <;> simp [hp]

/-- A choice by a decided proposition's bit. -/
theorem select_ite {α : Type} (p : Prop) [Decidable p] (x y : α) :
    Scalar.select (if p then 1#1 else 0#1) x y = if p then x else y := by
  by_cases hp : p <;> simp [hp, Scalar.select]

end Cert.Words
-- ==== Proof.Spec.lean ====
module
public import Idealize.ShloMosaic.PureOps.Ideal
public import Idealize.ShloMosaic.PureOps.Ideal.Laws
public import proofs.«01_k».proof.Proof.Words

/-! The detection loss of one anchor, written once over the extended reals: what the kernel computes lane by lane and the
reference computes element by element. -/

@[expose] public section
noncomputable section
namespace Cert.Spec
open Idealize.ShloMosaic

/-- The common area of an anchor and a box `g = (x1, y1, x2, y2)`. -/
def meet (y1 x1 y2 x2 : EReal) (g : ℕ → EReal) : EReal :=
  max (min x2 (g 2) - max x1 (g 0)) 0 * max (min y2 (g 3) - max y1 (g 1)) 0

/-- The overlap ratio of an anchor and a box. -/
def overlap (y1 x1 y2 x2 : EReal) (g : ℕ → EReal) : EReal :=
  Ideal.div (meet y1 x1 y2 x2 g)
    (max ((y2 - y1) * (x2 - x1) + (g 2 - g 0) * (g 3 - g 1) - meet y1 x1 y2 x2 g) (Ideal.ofBits .f32 0x322BCC77#32))

/-- The running maximum of the first `n` ratios, from minus one. -/
def lead (r : ℕ → EReal) (n : ℕ) : EReal :=
  Nat.rec (Ideal.ofBits .f32 0xBF800000#32) (fun m b => if b < r m then r m else b) n

/-- The field carried by whichever of the first `n` ratios set the running maximum. -/
def held (r f : ℕ → EReal) (n : ℕ) : EReal :=
  Nat.rec 0 (fun m g => if lead r m < r m then f m else g) n

/-- One step of the running maximum. -/
theorem lead_succ (r : ℕ → EReal) (n : ℕ) : lead r (n + 1) = if lead r n < r n then r n else lead r n := rfl
/-- One step of the field carried with it. -/
theorem held_succ (r f : ℕ → EReal) (n : ℕ) : held r f (n + 1) = if lead r n < r n then f n else held r f n := rfl

/-- The centre of an interval. -/
def centre (lo hi : EReal) : EReal := lo + Ideal.ofBits .f32 0x3F000000#32 * (hi - lo)

/-- The offset of one interval's centre from another's, in lengths of the other. -/
def shift (lo hi g h : EReal) : EReal := Ideal.div (centre g h - centre lo hi) (hi - lo)

/-- The logarithm of one interval's clamped length in lengths of another. -/
def stretch (lo hi g h : EReal) : EReal := Ideal.log (Ideal.div (max (h - g) 1) (hi - lo))

/-- The smoothed distance of a target from a regression. -/
def smooth (t r : EReal) : EReal :=
  if max (t - r) (-(t - r)) ≤ Ideal.ofBits .f32 0x3DE38E39#32 then
    Ideal.ofBits .f32 0x40900000#32 * max (t - r) (-(t - r)) * max (t - r) (-(t - r))
  else max (t - r) (-(t - r)) - Ideal.ofBits .f32 0x3D638E39#32

section
variable (y1 x1 y2 x2 : EReal) (s : ℕ → ℕ → EReal)

/-- The ratios of an anchor with every box. -/
def ratios (m : ℕ) : EReal := overlap y1 x1 y2 x2 (s m)

/-- The anchor's best ratio. -/
def top : EReal := lead (ratios y1 x1 y2 x2 s) 20

/-- Field `k` of the anchor's best box. -/
def field (k : ℕ) : EReal := held (ratios y1 x1 y2 x2 s) (fun m => s m k) 20

/-- The four regression targets of the anchor. -/
def target (k : Fin 4) : EReal :=
  (![shift y1 y2 (field y1 x1 y2 x2 s 1) (field y1 x1 y2 x2 s 3), shift x1 x2 (field y1 x1 y2 x2 s 0) (field y1 x1 y2 x2 s 2),
    stretch y1 y2 (field y1 x1 y2 x2 s 1) (field y1 x1 y2 x2 s 3), stretch x1 x2 (field y1 x1 y2 x2 s 0) (field y1 x1 y2 x2 s 2)] : Fin 4 → EReal) k
end

/-- The anchor is matched. -/
abbrev Good (t : EReal) : Prop := Ideal.ofBits .f32 0x3F000000#32 ≤ t

/-- The anchor is background. -/
abbrev Poor (t : EReal) : Prop := t < Ideal.ofBits .f32 0x3ECCCCCD#32

/-- A ratio is never negative. -/
theorem overlap_nonneg (y1 x1 y2 x2 : EReal) (g : ℕ → EReal) : 0 ≤ overlap y1 x1 y2 x2 g := by
  have hm : 0 ≤ meet y1 x1 y2 x2 g := mul_nonneg (le_max_right _ _) (le_max_right _ _)
  have he := Words.least_pos
  have hd := lt_of_lt_of_le he (le_max_right ((y2 - y1) * (x2 - x1) + (g 2 - g 0) * (g 3 - g 1) - meet y1 x1 y2 x2 g) (Ideal.ofBits .f32 0x322BCC77#32))
  unfold overlap
  unfold Ideal.div
  rw [if_neg hd.ne']
  exact mul_nonneg hm (EReal.inv_nonneg_of_nonneg hd.le)

/-- From minus one, the running maximum over ratios none of which is negative ends at the first largest one, and so does the
field carried with it. -/
theorem run_first (r f : ℕ → EReal) (hr : ∀ m, 0 ≤ r m) (k : ℕ) (N : ℕ) (hk : k < N)
    (h : ∀ m, m < N → r m < r k ∨ (r m = r k ∧ k ≤ m)) : lead r N = r k ∧ held r f N = f k := by
  have key : ∀ n, n ≤ N → (k < n → lead r n = r k ∧ held r f n = f k) ∧ (n ≤ k → lead r n < r k) := by
    intro n
    induction n with
    | zero =>
      refine fun _ => ⟨fun h => absurd h (Nat.not_lt_zero _), fun _ => ?_⟩
      refine lt_of_lt_of_le ?_ (hr k)
      show Ideal.ofBits .f32 0xBF800000#32 < 0
      rw [Words.minus_one, ← EReal.coe_zero, EReal.coe_lt_coe_iff]
      norm_num
    | succ n ih =>
      intro hn
      obtain ⟨ih1, ih2⟩ := ih (by omega)
      rw [lead_succ, held_succ]
      rcases Nat.lt_trichotomy k n with hkn | rfl | hkn
      · obtain ⟨e1, e2⟩ := ih1 hkn
        have : ¬ lead r n < r n := by
          rw [e1, not_lt]
          rcases h n (by omega) with h' | ⟨h', _⟩
          · exact h'.le
          · exact h'.le
        rw [if_neg this, if_neg this]
        exact ⟨fun _ => ⟨e1, e2⟩, fun h => by omega⟩
      · have := ih2 le_rfl
        rw [if_pos this, if_pos this]
        exact ⟨fun _ => ⟨rfl, rfl⟩, fun h => by omega⟩
      · refine ⟨fun h => by omega, fun _ => ?_⟩
        have hlt : r n < r k := by
          rcases h n (by omega) with h' | ⟨_, h'⟩
          · exact h'
          · omega
        split
        · exact hlt
        · exact ih2 hkn.le
  exact (key N le_rfl).1 hk

end Cert.Spec
-- ==== Proof.Score.lean ====
module
public import proofs.«01_k».proof.Proof.Spec
public import Mathlib.Analysis.SpecialFunctions.Pow.Real

/-! The focal class loss of one score as a real number: the clipped scores are real numbers strictly between zero and one, on
which every operation of either program stays real. -/

@[expose] public section
noncomputable section
namespace Cert.Spec
open Idealize.ShloMosaic

/-- A score clipped away from zero and one. -/
def clip (x : EReal) : EReal := min (Ideal.ofBits .f32 0x3F7FF972#32) (max (Ideal.ofBits .f32 0x38D1B717#32) x)

/-- The clipped score as a real number. -/
def clipR (x : EReal) : ℝ := (clip x).toReal

/-- The minimum of reals as extended reals. -/
theorem coe_min' (x y : ℝ) : ((min x y : ℝ) : EReal) = min (x : EReal) y := EReal.coe_strictMono.monotone.map_min
/-- The maximum of reals as extended reals. -/
theorem coe_max' (x y : ℝ) : ((max x y : ℝ) : EReal) = max (x : EReal) y := EReal.coe_strictMono.monotone.map_max

/-- A clipped score is a real number between zero and one. -/
theorem clip_spec (x : EReal) : ∃ r : ℝ, clip x = r ∧ 0 < r ∧ r < 1 := by
  obtain ⟨l, hl, l0, l1⟩ := Words.low
  obtain ⟨h, hh, h0, h1⟩ := Words.high
  unfold clip
  rw [hl, hh]
  induction x with
  | bot => exact ⟨min h l, by rw [max_bot_right, coe_min'], lt_min h0 l0, (min_le_left _ _).trans_lt h1⟩
  | top => exact ⟨h, by rw [max_top_right, min_top_right], h0, h1⟩
  | coe r => exact ⟨min h (max l r), by rw [coe_min', coe_max'], lt_min h0 (l0.trans_le (le_max_left _ _)), (min_le_left _ _).trans_lt h1⟩

/-- The clipped score is the extended real of its real number. -/
theorem clip_coe (x : EReal) : clip x = (clipR x : EReal) := by
  obtain ⟨r, h, -⟩ := clip_spec x
  unfold clipR
  rw [h, EReal.toReal_coe]

/-- The clipped score is positive. -/
theorem clipR_pos (x : EReal) : 0 < clipR x := by
  obtain ⟨r, h, h0, -⟩ := clip_spec x
  unfold clipR
  rw [h, EReal.toReal_coe]
  exact h0

/-- The clipped score is less than one. -/
theorem clipR_lt (x : EReal) : clipR x < 1 := by
  obtain ⟨r, h, -, h1⟩ := clip_spec x
  unfold clipR
  rw [h, EReal.toReal_coe]
  exact h1

/-- The loss of a score whose target is zero. -/
def ground (p : ℝ) : ℝ := 1 / 2 * p ^ 2 * -Real.log (1 - p)

/-- The loss of a score whose target is one. -/
def spike (p : ℝ) : ℝ := 1 / 2 * (1 - p) ^ 2 * -Real.log p

/-- The loss of the score of class `c` at an anchor of best ratio `t` whose best box has class `k`. -/
def score (t k : EReal) (c : ℕ) (p : ℝ) : ℝ :=
  if Good t then if Ideal.fptosi 32 k = BitVec.ofNat 32 c then spike p else ground p
  else if Poor t then ground p else 0

/-- The logarithm of a positive real. -/
theorem log_real (p : ℝ) (h : 0 < p) : Ideal.log (p : EReal) = ((Real.log p : ℝ) : EReal) := by
  rw [Ideal.log_coe, if_neg (not_le.2 h)]

/-- One minus a real. -/
theorem one_sub (p : ℝ) : (1 : EReal) - (p : EReal) = ((1 - p : ℝ) : EReal) := by
  rw [EReal.coe_sub, EReal.coe_one]

/-- A real's square as a power. -/
theorem pow_two (p : ℝ) : Ideal.pow (p : EReal) (Ideal.ofBits .f32 0x40000000#32) = ((p ^ 2 : ℝ) : EReal) := by
  rw [Words.two, Ideal.pow_coe_coe]
  exact congrArg _ (Real.rpow_two p)

/-- The reference's formula at the target one. -/
theorem spike_one (p : ℝ) (h0 : 0 < p) (h1 : p < 1) :
    (if (1 : EReal) ≠ Ideal.ofBits .f32 0xBF800000#32 then
      (Ideal.ofBits .f32 0x3F000000#32 * Ideal.pow (if (1 : EReal) = 1 then 1 - (p : EReal) else p) (Ideal.ofBits .f32 0x40000000#32))
        * -(1 * Ideal.log p + (1 - 1) * Ideal.log (1 - (p : EReal))) else 0) = ((spike p : ℝ) : EReal) := by
  rw [if_pos, if_pos rfl, one_sub, pow_two, log_real p h0, log_real (1 - p) (by linarith), Words.half]
  · rw [← EReal.coe_one, ← EReal.coe_sub, ← EReal.coe_mul, ← EReal.coe_mul, ← EReal.coe_mul, ← EReal.coe_add, ← EReal.coe_neg, ← EReal.coe_mul]
    unfold spike
    exact congrArg _ (by ring)
  · rw [Words.minus_one, ← EReal.coe_one]
    exact fun h => absurd (EReal.coe_eq_coe_iff.1 h) (by norm_num)

/-- The reference's formula at the target zero. -/
theorem ground_zero (p : ℝ) (h0 : 0 < p) (h1 : p < 1) :
    (if (0 : EReal) ≠ Ideal.ofBits .f32 0xBF800000#32 then
      (Ideal.ofBits .f32 0x3F000000#32 * Ideal.pow (if (0 : EReal) = 1 then 1 - (p : EReal) else p) (Ideal.ofBits .f32 0x40000000#32))
        * -(0 * Ideal.log p + (1 - 0) * Ideal.log (1 - (p : EReal))) else 0) = ((ground p : ℝ) : EReal) := by
  rw [if_pos, if_neg zero_ne_one, one_sub, pow_two, log_real p h0, log_real (1 - p) (by linarith), Words.half]
  · rw [← EReal.coe_one, ← EReal.coe_zero, ← EReal.coe_sub, ← EReal.coe_mul, ← EReal.coe_mul, ← EReal.coe_mul, ← EReal.coe_add, ← EReal.coe_neg, ← EReal.coe_mul]
    unfold ground
    exact congrArg _ (by ring)
  · rw [Words.minus_one, ← EReal.coe_zero]
    exact fun h => absurd (EReal.coe_eq_coe_iff.1 h) (by norm_num)

end Cert.Spec
-- ==== Proof.FocalVal.lean ====
module
public import proofs.«01_k».proof.Proof.LaunchIdeal
public import proofs.«01_k».proof.Proof.Score
public import Idealize.ShloMosaic.Lib.Pointwise
public import Idealize.ShloMosaic.Lib.Pipeline.ValueKit
public import Idealize.ShloMosaic.Lib.Pipeline.Value

/-! The numbers of the focal region: what a block adds to its image's class loss, and the array the region leaves. -/

@[expose] public section
set_option maxRecDepth 16384
noncomputable section
namespace Cert.KernelIdeal.Focal
open Cert.KernelIdeal Cert.KernelIdeal.Gen
open Idealize.ShloMosaic Idealize.ShloMosaic.TcCoe
open Idealize.ShloMosaic.Pipeline (Dat)

variable (x0 : Vec Ideal S1x80x6144 .f32) (x1 x2 x3 : Vec Ideal S1x1x6144 .f32) (j : Fin 6144) (k : Fin 80)

/-- A score of a block is clipped. -/
theorem clip_apply : k1_pay4 x0 (ix2 k j) = Spec.clip (x0 (ix3 (0 : Fin 1) k j)) := by
  pointwise [k1_pay4]
  rfl

attribute [local irreducible] k1_pay4

/-- A choice on the equality of two words. -/
theorem choose_eq (u v : BitVec 32) (x y : EReal) : Scalar.select (IntOp.cmpi CmpIPredicate.eq u v) x y = if v = u then x else y := by
  unfold Scalar.select IntOp.cmpi
  by_cases h : v = u
  · subst h
    simp
  · have h' : ¬ u = v := fun e => h e.symm
    have e : (u == v) = false := beq_eq_false_iff_ne.2 h'
    simp [h, e]

/-- The losses of a block's scores at the target zero, where the lane counts. -/
theorem ground_block : k1_pay5 x0 x1 = Ideal.ofBits .f32 0xBF000000#32 * ∑ j : Fin 6144, x1 (ix3 (0 : Fin 1) (0 : Fin 1) j)
      * ∑ k : Fin 80, Spec.clip (x0 (ix3 (0 : Fin 1) k j)) * Spec.clip (x0 (ix3 (0 : Fin 1) k j)) * Ideal.log (1 - Spec.clip (x0 (ix3 (0 : Fin 1) k j))) := by
  pointwise [k1_pay5, clip_apply]
  rw [Fin.sum_univ_one]

/-- The score of a lane's own class. -/
def hit : EReal := ∑ k : Fin 80, if Ideal.fptosi 32 (x3 (ix3 (0 : Fin 1) (0 : Fin 1) j)) = BitVec.ofNat 32 k.val
      then Spec.clip (x0 (ix3 (0 : Fin 1) k j)) else 0

/-- The masked sum over the classes is the score of the lane's own class. -/
theorem hit_apply : k1_pay6 x0 x3 (ix2 (0 : Fin 1) j) = hit x0 x3 j := by
  pointwise [k1_pay6, clip_apply]
  exact Finset.sum_congr rfl fun k _ => choose_eq _ _ _ _

attribute [local irreducible] k1_pay5 k1_pay6

/-- What a matched lane's own class adds over the target zero. -/
def lift (t : EReal) : EReal :=
  Ideal.ofBits .f32 0x3F000000#32 * ((1 - t) * (1 - t)) * (0 - Ideal.log t) - Ideal.ofBits .f32 0x3F000000#32 * (t * t) * (0 - Ideal.log (1 - t))

/-- What a block adds to its image's class loss. -/
def part : EReal := k1_pay5 x0 x1 + ∑ j : Fin 6144, x2 (ix3 (0 : Fin 1) (0 : Fin 1) j) * lift (hit x0 x3 j)

/-- Opening stores what the block adds. -/
theorem opening_apply (l : Fin 128) : opening x0 x1 x2 x3 (ix3 (0 : Fin 1) (0 : Fin 1) l) = part x0 x1 x2 x3 := by
  pointwise [opening, k1_pay2, k1_pay1, k1_pay7, k1_pay8, k1_pay9, hit_apply]
  unfold part lift
  rw [Fin.sum_univ_one]

/-- Extending adds what the block adds to the number found. -/
theorem extending_apply (old : Vec Ideal S1x1x128 .f32) (l : Fin 128) :
    extending x0 x1 x2 x3 old (ix3 (0 : Fin 1) (0 : Fin 1) l) = old (ix3 (0 : Fin 1) (0 : Fin 1) l) + part x0 x1 x2 x3 := by
  pointwise [extending, k1_pay3, k1_pay1, k1_pay7, k1_pay8, k1_pay9, hit_apply]
  unfold part lift
  rw [Fin.sum_univ_one]

/-- Where each window's block sits at a point. -/
theorem idx : ∀ t : Fin cfg1.N, win1_0.index t = ![t.val / 8, 0, t.val % 8] ∧ win1_1.index t = ![t.val / 8, 0, t.val % 8]
    ∧ win1_2.index t = ![t.val / 8, 0, t.val % 8] ∧ win1_3.index t = ![t.val / 8, 0, t.val % 8] ∧ win1_4.index t = ![t.val / 8, 0, 0] :=
  (by decide +kernel : ∀ t : Fin grid1.N, _)

variable (V : (c : Dev nD) → (b : Ref sig .tc) → Buf (Elt Ideal) ((c : Thread nD τ).loc b)) (c : Dev nD) (t : Fin cfg1.N)
  (b : Fin 8) (i : Fin 8)

/-- The lane of the padded layout at a place of a tile. -/
abbrev lane (i : Fin 8) (j : Fin 6144) : Fin 49152 := ⟨i.val * 6144 + j.val, by omega⟩

section
variable (hb : t.val / 8 = b.val) (hi : t.val % 8 = i.val)
include hb hi

/-- A block's score, in the array of scores. -/
theorem scores_read : iblk V c 0 t (ix3 (0 : Fin 1) k j) = V c main_v39 (ix3 b k (lane i j)) := by
  blk_ext [iblk, idx t]

/-- A block's mask entry, in the array of the mask. -/
theorem mask_read : iblk V c 1 t (ix3 (0 : Fin 1) (0 : Fin 1) j) = V c main_v40 (ix3 b (0 : Fin 1) (lane i j)) := by
  blk_ext [iblk, idx t]

/-- A block's matched lane, in the array of matched lanes. -/
theorem good_read : iblk V c 2 t (ix3 (0 : Fin 1) (0 : Fin 1) j) = V c main_v41 (ix3 b (0 : Fin 1) (lane i j)) := by
  blk_ext [iblk, idx t]

/-- A block's class, in the array of classes. -/
theorem kind_read : iblk V c 3 t (ix3 (0 : Fin 1) (0 : Fin 1) j) = V c main_v42 (ix3 b (0 : Fin 1) (lane i j)) := by
  blk_ext [iblk, idx t]

end

/-- What the point adds. -/
def partAt : EReal := part (iblk V c 0 t) (iblk V c 1 t) (iblk V c 2 t) (iblk V c 3 t)

/-- The point of an image's tile. -/
abbrev pt (b : Fin 8) (i : ℕ) (h : i < 8) : Fin cfg1.N := ⟨8 * b.val + i, Nat.lt_of_lt_of_eq (by omega : _ < 64) N_1.symm⟩

/-- The buffer at a point of an image holds the sum of what its points up to there add. -/
theorem sums_apply (l : Fin 128) : ∀ (i : ℕ) (h : i < 8), sums V c (pt b i h).val (pt b i h).isLt (ix3 (0 : Fin 1) (0 : Fin 1) l)
    = ∑ k : Fin (i + 1), partAt V c (pt b k.val (by omega))
  | 0, h => by
    rw [sums_opening V c (pt b 0 h) (by show (8 * b.val + 0) % 8 = 0; omega), opening_apply]
    exact (Fin.sum_univ_one (fun k : Fin 1 => partAt V c (pt b k.val (by omega)))).symm
  | i + 1, h => by
    rw [sums_extending V c (pt b (i + 1) h) (by show (8 * b.val + (i + 1)) % 8 ≠ 0; omega), extending_apply, Fin.sum_univ_castSucc]
    refine congrArg₂ (· + ·) ?_ rfl
    exact sums_apply l i (by omega)

variable {Ix : Type} [DecidableEq Ix] {U : Type} [Idealize.SL.RA.URA U] {Lvl : Type} [Preorder Lvl] (D : Dev nD → CellTallies nD τ sig Ix)

/-- The array the region leaves: each image's sum over its eight tiles. -/
theorem loss_array (l : Fin 128) : (dat (Ix := Ix) (U := U) (Lvl := Lvl) V D c).arrAt 4 cfg1.N (ix3 b (0 : Fin 1) l)
    = ∑ i : Fin 8, partAt V c (pt b i.val i.isLt) := by
  have last : 7 < 8 := by decide
  have key := (dat (Ix := Ix) (U := U) (Lvl := Lvl) V D c).arrAt_emb_eq_flushed 4
    (Pipeline.Window.hdisj_of_index_inj (cfg1.win 4) (by decide +kernel)) (pt b 7 last)
    ((flush1_4 _).2 (by show (8 * b.val + 7) % 8 = 7; omega)) (ix3 (0 : Fin 1) (0 : Fin 1) l)
  have e : ((cfg1.win 4).blk (pt b 7 last)).view.emb (ix3 (0 : Fin 1) (0 : Fin 1) l) = ix3 b (0 : Fin 1) l := by
    blk_ext [iblk, idx (pt b 7 last)]
  rw [e] at key
  refine key.trans ?_
  blk_simp
  rw [after_out]
  exact sums_apply V c b l 7 last

end Cert.KernelIdeal.Focal
-- ==== Proof.Class.lean ====
module
public import proofs.«01_k».proof.Proof.Score
public import proofs.«01_k».proof.Proof.FocalVal

/-! The class loss of a block as a sum over its lanes of the losses of the lanes' scores. -/

@[expose] public section
set_option maxRecDepth 16384
noncomputable section
namespace Cert.Spec
open Idealize.ShloMosaic

/-- The field carried with the best of some ratios is one of the fields. -/
theorem held_mem (r f : ℕ → EReal) (hr : ∀ m, 0 ≤ r m) (n : ℕ) : ∃ k, k < n + 1 ∧ held r f (n + 1) = f k := by
  induction n with
  | zero =>
    refine ⟨0, Nat.zero_lt_one, ?_⟩
    rw [held_succ, if_pos]
    refine lt_of_lt_of_le ?_ (hr 0)
    show Ideal.ofBits .f32 0xBF800000#32 < 0
    rw [Words.minus_one, ← EReal.coe_zero, EReal.coe_lt_coe_iff]
    norm_num
  | succ n ih =>
    rw [held_succ]
    by_cases h : lead r (n + 1) < r (n + 1)
    · rw [if_pos h]
      exact ⟨n + 1, Nat.lt_succ_self _, rfl⟩
    · rw [if_neg h]
      obtain ⟨k, hk, e⟩ := ih
      exact ⟨k, Nat.lt_succ_of_lt hk, e⟩

/-- A class number from zero up to eighty is one of the eighty classes. -/
theorem class_number (x : EReal) (h0 : 0 ≤ x) (h1 : x < ((80 : ℝ) : EReal)) : ∃ k : Fin 80, Ideal.fptosi 32 x = BitVec.ofNat 32 k.val := by
  induction x with
  | bot => exact absurd h0 (by simp)
  | top => exact absurd h1 (by simp)
  | coe r =>
    rw [EReal.coe_nonneg] at h0
    rw [EReal.coe_lt_coe_iff] at h1
    have hf0 : 0 ≤ ⌊r⌋ := Int.floor_nonneg.2 h0
    have hf1 : ⌊r⌋ < 80 := Int.floor_lt.2 (by exact_mod_cast h1)
    refine ⟨⟨⌊r⌋.toNat, by omega⟩, ?_⟩
    show BitVec.ofInt 32 (max _ (min _ (if 0 ≤ r then ⌊r⌋ else ⌈r⌉))) = _
    rw [if_pos h0, min_eq_right, max_eq_right]
    · rw [← BitVec.ofInt_natCast]
      exact congrArg _ (Int.toNat_of_nonneg hf0).symm
    · norm_num
      omega
    · norm_num
      omega

/-- A sum of reals. -/
theorem coe_total {ι : Type*} [Fintype ι] (f : ι → ℝ) : (∑ i, (f i : EReal)) = ((∑ i, f i : ℝ) : EReal) :=
  (map_sum (⟨⟨Real.toEReal, EReal.coe_zero⟩, EReal.coe_add⟩ : ℝ →+ EReal) f Finset.univ).symm

/-- What the matched class adds, in reals. -/
theorem lift_real (p : ℝ) (h0 : 0 < p) (h1 : p < 1) : KernelIdeal.Focal.lift (p : EReal) = ((spike p - ground p : ℝ) : EReal) := by
  unfold KernelIdeal.Focal.lift
  rw [one_sub, log_real p h0, log_real (1 - p) (by linarith), Words.half, ← EReal.coe_zero]
  simp only [← EReal.coe_mul, ← EReal.coe_sub]
  unfold spike ground
  exact congrArg _ (by ring)

/-- The eighty scores of an anchor whose best box has class `k`: the losses at the target zero where the anchor counts, and at a
    matched anchor the correction at its own class. -/
theorem scores_split (t q : EReal) (k : Fin 80) (hk : Ideal.fptosi 32 q = BitVec.ofNat 32 k.val) (p : Fin 80 → ℝ) :
    ∑ c : Fin 80, score t q c.val (p c)
      = (if Good t ∨ Poor t then 1 else 0) * (∑ c : Fin 80, ground (p c)) + (if Good t then 1 else 0) * (spike (p k) - ground (p k)) := by
  have own : ∀ c : Fin 80, Ideal.fptosi 32 q = BitVec.ofNat 32 c.val ↔ k = c := fun c => by
    rw [hk]
    refine ⟨fun e => ?_, fun e => by rw [e]⟩
    have e' := congrArg BitVec.toNat e
    rw [BitVec.toNat_ofNat, BitVec.toNat_ofNat, Nat.mod_eq_of_lt (by omega), Nat.mod_eq_of_lt (by omega)] at e'
    exact Fin.ext e'
  unfold score
  by_cases g : Good t
  · simp only [if_pos g, if_pos (Or.inl g : Good t ∨ Poor t), own, one_mul]
    have : ∀ c : Fin 80, (if k = c then spike (p c) else ground (p c)) = ground (p c) + if k = c then spike (p c) - ground (p c) else 0 := fun c => by
      split <;> ring
    rw [Finset.sum_congr rfl fun c _ => this c, Finset.sum_add_distrib, Finset.sum_ite_eq]
    simp
  · by_cases w : Poor t
    · simp only [if_neg g, if_pos w, if_pos (Or.inr w : Good t ∨ Poor t), one_mul, zero_mul, add_zero]
    · have n : ¬ (Good t ∨ Poor t) := fun h => h.elim g w
      simp only [if_neg g, if_neg w, if_neg n, zero_mul, add_zero, Finset.sum_const_zero]

end Cert.Spec
-- ==== Proof.MatchRun.lean ====
module
public import proofs.«01_k».proof.Proof.LaunchIdeal
public import Idealize.ShloMosaic.Lib.VecWindow

/-! What one point of the matching region leaves in its outputs, as whole-vector arithmetic: a running best overlap over
the twenty boxes, carried with the five fields of the box that set it. -/

@[expose] public section
set_option maxRecDepth 100000
noncomputable section
namespace Cert.KernelIdeal.Match
open Cert.KernelIdeal Cert.KernelIdeal.Gen Cert.KernelIdeal.Own.K0
open Idealize.ShloMosaic Idealize.ShloMosaic.TcCoe

variable {F : FTy → Type} [FloatOps F]

/-- A lane of the matching region: one value for each anchor of the padded layout. -/
abbrev Lane (F : FTy → Type) : Type := FVec F S8x6144 .f32

/-- The same scalar on every anchor. -/
def every (x : F .f32) : Lane F := broadcast S8x6144 x

section
variable (y1 x1 y2 x2 : Lane F) (s : ℕ → ℕ → F .f32)

/-- The overlap area of box `m` with every anchor. -/
def common (m : ℕ) : Lane F :=
  mulf (maximumf (subf (minimumf x2 (every (s m 2))) (maximumf x1 (every (s m 0)))) (every (Scalar.ofBits .f32 0x00000000#32)))
    (maximumf (subf (minimumf y2 (every (s m 3))) (maximumf y1 (every (s m 1)))) (every (Scalar.ofBits .f32 0x00000000#32)))

/-- The overlap ratio of box `m` with every anchor. -/
def ratio (m : ℕ) : Lane F :=
  divf (common y1 x1 y2 x2 s m)
    (maximumf
      (subf (addf (mulf (subf y2 y1) (subf x2 x1))
        (every (Scalar.mulf (Scalar.subf (s m 2) (s m 0)) (Scalar.subf (s m 3) (s m 1))))) (common y1 x1 y2 x2 s m))
      (every (Scalar.ofBits .f32 0x322BCC77#32)))

/-- The best ratio after the first `n` boxes. -/
def best (n : ℕ) : Lane F :=
  Nat.rec (every (Scalar.ofBits .f32 0xBF800000#32))
    (fun m b => select (cmpf .ogt (ratio y1 x1 y2 x2 s m) b) (ratio y1 x1 y2 x2 s m) b) n

/-- Field `k` of the box that set the best ratio after the first `n` boxes. -/
def got (k n : ℕ) : Lane F :=
  Nat.rec (every (Scalar.ofBits .f32 0x00000000#32))
    (fun m g => select (cmpf .ogt (ratio y1 x1 y2 x2 s m) (best y1 x1 y2 x2 s m)) (every (s m k)) g) n

/-- Which anchors are matched well enough to regress to. -/
def chosen : IVec S8x6144 1 :=
  andi (cmpf .oge (best y1 x1 y2 x2 s 20) (every (Scalar.ofBits .f32 0x3F000000#32))) k0_pay217

/-- The anchors whose class scores count, as ones and zeros. -/
def counted : Lane F :=
  select (andi (ori (chosen y1 x1 y2 x2 s) (cmpf .olt (best y1 x1 y2 x2 s 20) (every (Scalar.ofBits .f32 0x3ECCCCCD#32)))) k0_pay217)
    (every (Scalar.ofBits .f32 0x3F800000#32)) (every (Scalar.ofBits .f32 0x00000000#32))

/-- The matched anchors as ones and zeros. -/
def matched : Lane F :=
  select (chosen y1 x1 y2 x2 s) (every (Scalar.ofBits .f32 0x3F800000#32)) (every (Scalar.ofBits .f32 0x00000000#32))

/-- A clamped extent. -/
def widen (lo hi : Lane F) : Lane F := maximumf (subf hi lo) (every (Scalar.ofBits .f32 0x3F800000#32))

/-- The offset of the centre of `[g, h]` from the centre of `[lo, hi]`, in lengths of the latter. -/
def offset (lo hi g h : Lane F) : Lane F :=
  divf (subf (addf g (mulf (every (Scalar.ofBits .f32 0x3F000000#32)) (subf h g)))
    (addf lo (mulf (every (Scalar.ofBits .f32 0x3F000000#32)) (subf hi lo)))) (subf hi lo)

/-- The logarithm of the clamped extent of `[g, h]` in lengths of `[lo, hi]`. -/
def scale (lo hi g h : Lane F) : Lane F := log (divf (widen g h) (subf hi lo))

/-- The smoothed distance of a target from a regression. -/
def smooth (t r : Lane F) : Lane F :=
  select (cmpf .ole (absf (subf t r)) (every (Scalar.ofBits .f32 0x3DE38E39#32)))
    (mulf (mulf (every (Scalar.ofBits .f32 0x40900000#32)) (absf (subf t r))) (absf (subf t r)))
    (subf (absf (subf t r)) (every (Scalar.ofBits .f32 0x3D638E39#32)))

/-- The regression loss of every anchor. -/
def regress (r0 r1 r2 r3 : Lane F) : Lane F :=
  select (chosen y1 x1 y2 x2 s)
    (addf (addf (addf (addf (every (Scalar.ofBits .f32 0x00000000#32))
      (smooth (offset y1 y2 (got y1 x1 y2 x2 s 1 20) (got y1 x1 y2 x2 s 3 20)) r0))
      (smooth (offset x1 x2 (got y1 x1 y2 x2 s 0 20) (got y1 x1 y2 x2 s 2 20)) r1))
      (smooth (scale y1 y2 (got y1 x1 y2 x2 s 1 20) (got y1 x1 y2 x2 s 3 20)) r2))
      (smooth (scale x1 x2 (got y1 x1 y2 x2 s 0 20) (got y1 x1 y2 x2 s 2 20)) r3))
    (every (Scalar.ofBits .f32 0x00000000#32))
end

/-- A block read whole and flattened to a lane. -/
def flat (arg : Memref sig .tc .vmem S1x8x6144 .f32) (h : arg.IsWhole) (x : Vec F S1x8x6144 .f32) : Lane F :=
  shapeCast S8x6144 (View.readAt (Elt F) arg.view (Rect.unit (s := S1x8x6144) ![0, 0, 0] S1x8x6144.size inb_S1x8x6144_S1x8x6144_0_0_0).toLoadRect (h.unread x)) shapeCasts_S1x8x6144_S8x6144

/-- Entry `(m, k)` of the table is inside it, the two coordinates reduced to its sizes. -/
theorem entry_inb (m k : ℕ) : ∀ a, (![0, m % 20, k % 5] : Fin 3 → Nat) a + S1x1x1.size a ≤ S1x20x5.size a := by
  have hm := Nat.mod_lt m (show 0 < 20 by omega)
  have hk := Nat.mod_lt k (show 0 < 5 by omega)
  intro a
  match a with
  | ⟨0, _⟩ => exact Nat.le_refl _
  | ⟨1, _⟩ => exact hm
  | ⟨2, _⟩ => exact hk

/-- The table entry `(m, k)` as the body reads it. -/
def entry (arg : Memref sig .tc .smem S1x20x5 .f32) (h : arg.IsWhole) (x : Vec F S1x20x5 .f32) (m k : ℕ) : F .f32 :=
  View.readAt (Elt F) arg.view (Rect.unit (s := S1x20x5) ![0, m % 20, k % 5] S1x1x1.size (entry_inb m k)).toLoadRect (h.unread x) (Shape.Idx.first (by change 0 < S1x1x1.numel; decide))

variable {Ix : Type} [DecidableEq Ix] {U : Type} [Idealize.SL.RA.URA U] {Lvl : Type} [Preorder Lvl]
variable (𝒱₀ : Variants) (V : (c : Dev nD) → (b : Ref sig .tc) → Buf (Elt F) ((c : Thread nD τ).loc b)) (c : Dev nD) (t : Fin cfg0.N)

/-- The four anchor lanes and the table of the boxes at a point. -/
abbrev y1At : Lane F := flat (ms0_0 t) (hs0_0 t) (iblk V c 0 t)
@[inherit_doc y1At] abbrev x1At : Lane F := flat (ms0_1 t) (hs0_1 t) (iblk V c 1 t)
@[inherit_doc y1At] abbrev y2At : Lane F := flat (ms0_2 t) (hs0_2 t) (iblk V c 2 t)
@[inherit_doc y1At] abbrev x2At : Lane F := flat (ms0_3 t) (hs0_3 t) (iblk V c 3 t)
@[inherit_doc y1At] abbrev boxAt : ℕ → ℕ → F .f32 := entry (ms0_8 t) (hs0_8 t) (iblk V c 8 t)

/-- The first output of a point: the counted anchors. -/
theorem counted_run : (outsAt0 (Ix := Ix) (U := U) (Lvl := Lvl) 𝒱₀ V c t).1
    = shapeCast S1x8x6144 (counted (y1At V c t) (x1At V c t) (y2At V c t) (x2At V c t) (boxAt V c t)) shapeCasts_S8x6144_S1x8x6144 := by
  unfold outsAt0 out0_A_9 kernelRun0_A
  dsimp only
  exact (View.read_writes_full _ _ _ _ _).trans rfl

/-- The second output of a point: the matched anchors. -/
theorem matched_run : (outsAt0 (Ix := Ix) (U := U) (Lvl := Lvl) 𝒱₀ V c t).2.1
    = shapeCast S1x8x6144 (matched (y1At V c t) (x1At V c t) (y2At V c t) (x2At V c t) (boxAt V c t)) shapeCasts_S8x6144_S1x8x6144 := by
  unfold outsAt0 out0_A_10 kernelRun0_A
  dsimp only
  exact (View.read_writes_full _ _ _ _ _).trans rfl

/-- The third output of a point: the class field of the best box. -/
theorem class_run : (outsAt0 (Ix := Ix) (U := U) (Lvl := Lvl) 𝒱₀ V c t).2.2.1
    = shapeCast S1x8x6144 (got (y1At V c t) (x1At V c t) (y2At V c t) (x2At V c t) (boxAt V c t) 4 20) shapeCasts_S8x6144_S1x8x6144 := by
  unfold outsAt0 out0_A_11 kernelRun0_A
  dsimp only
  exact (View.read_writes_full _ _ _ _ _).trans rfl

/-- The fourth output of a point: the sum of the regression losses. -/
theorem regress_run : (outsAt0 (Ix := Ix) (U := U) (Lvl := Lvl) 𝒱₀ V c t).2.2.2.1
    = k0_pay1 (regress (y1At V c t) (x1At V c t) (y2At V c t) (x2At V c t) (boxAt V c t)
        (flat (ms0_4 t) (hs0_4 t) (iblk V c 4 t)) (flat (ms0_5 t) (hs0_5 t) (iblk V c 5 t))
        (flat (ms0_6 t) (hs0_6 t) (iblk V c 6 t)) (flat (ms0_7 t) (hs0_7 t) (iblk V c 7 t))) := by
  unfold outsAt0 out0_A_12 kernelRun0_A
  dsimp only
  exact (View.read_writes_full _ _ _ _ _).trans rfl

/-- The fifth output of a point: the number of matched anchors. -/
theorem count_run : (outsAt0 (Ix := Ix) (U := U) (Lvl := Lvl) 𝒱₀ V c t).2.2.2.2
    = k0_pay2 (matched (y1At V c t) (x1At V c t) (y2At V c t) (x2At V c t) (boxAt V c t)) := by
  unfold outsAt0 out0_A_13 kernelRun0_A
  dsimp only
  exact (View.read_writes_full _ _ _ _ _).trans rfl

end Cert.KernelIdeal.Match
-- ==== Proof.MatchLane.lean ====
module
public import proofs.«01_k».proof.Proof.MatchRun
public import proofs.«01_k».proof.Proof.Spec
public import Idealize.ShloMosaic.Lib.Pointwise

/-! The matching region's whole-vector arithmetic read at one anchor, over the extended reals. -/

@[expose] public section
set_option maxRecDepth 16384
noncomputable section
namespace Cert.KernelIdeal.Match
open Cert.KernelIdeal Cert.KernelIdeal.Gen
open Idealize.ShloMosaic Idealize.ShloMosaic.TcCoe
open Cert.Words (andi_ite ori_ite ofBool_ite select_ite)

variable (y1 x1 y2 x2 : FVec Ideal S8x6144 .f32) (s : ℕ → ℕ → Ideal .f32) (i : Fin 8) (j : Fin 6144)

/-- A lane's ratio with a box. -/
theorem ratio_apply (m : ℕ) : ratio (F := Ideal) y1 x1 y2 x2 s m (ix2 i j)
    = Spec.ratios (y1 (ix2 i j)) (x1 (ix2 i j)) (y2 (ix2 i j)) (x2 (ix2 i j)) s m := by
  pointwise [ratio, common, every]
  rfl

/-- A lane's running maximum. -/
theorem best_apply (n : ℕ) : best (F := Ideal) y1 x1 y2 x2 s n (ix2 i j)
    = Spec.lead (Spec.ratios (y1 (ix2 i j)) (x1 (ix2 i j)) (y2 (ix2 i j)) (x2 (ix2 i j)) s) n := by
  induction n with
  | zero => rfl
  | succ n ih =>
    show select (cmpf .ogt (ratio (F := Ideal) y1 x1 y2 x2 s n) (best y1 x1 y2 x2 s n)) (ratio y1 x1 y2 x2 s n) (best y1 x1 y2 x2 s n) (ix2 i j) = _
    rw [Spec.lead_succ]
    pointwise [ratio_apply, ih]

/-- A lane's field of the box that set the running maximum. -/
theorem got_apply (k n : ℕ) : got (F := Ideal) y1 x1 y2 x2 s k n (ix2 i j)
    = Spec.held (Spec.ratios (y1 (ix2 i j)) (x1 (ix2 i j)) (y2 (ix2 i j)) (x2 (ix2 i j)) s) (fun m => s m k) n := by
  induction n with
  | zero =>
    show Ideal.ofBits .f32 0x00000000#32 = (0 : EReal)
    exact Words.zero
  | succ n ih =>
    show select (cmpf .ogt (ratio (F := Ideal) y1 x1 y2 x2 s n) (best y1 x1 y2 x2 s n)) (every (s n k)) (got y1 x1 y2 x2 s k n) (ix2 i j) = _
    rw [Spec.held_succ]
    pointwise [ratio_apply, best_apply, ih, every]

/-- An anchor of the padded layout is one of the reference's. -/
abbrev Inside (i : Fin 8) (j : Fin 6144) : Prop := i.val * 6144 + j.val < 49104

/-- Which lanes hold an anchor. -/
theorem valid_apply : k0_pay217 (ix2 i j) = if Inside i j then 1#1 else 0#1 := by
  pointwise [k0_pay217]
  have hi := i.isLt
  have hj := j.isLt
  have e : IntOp.addi (IntOp.muli (BitVec.ofNat 32 ↑i) 6144#32) (BitVec.ofNat 32 ↑j) = BitVec.ofNat 32 (i.val * 6144 + j.val) := by
    apply BitVec.eq_of_toNat_eq
    simp only [IntOp.addi, IntOp.muli, BitVec.toNat_add, BitVec.toNat_mul, BitVec.toNat_ofNat]
    omega
  rw [e]
  have hn : (BitVec.ofNat 32 (i.val * 6144 + j.val)).toNat = i.val * 6144 + j.val := by
    rw [BitVec.toNat_ofNat]; omega
  have hs : (BitVec.ofNat 32 (i.val * 6144 + j.val)).slt 49104#32 = decide (Inside i j) := by
    rw [BitVec.slt_eq_decide, BitVec.toInt_eq_toNat_of_lt (by omega), hn]
    rw [decide_eq_decide, show (49104#32).toInt = 49104 from by decide]
    omega
  rw [show IntOp.cmpi CmpIPredicate.slt (BitVec.ofNat 32 (i.val * 6144 + j.val)) 49104#32
    = BitVec.ofBool ((BitVec.ofNat 32 (i.val * 6144 + j.val)).slt 49104#32) from rfl, hs, ofBool_ite]

/-- Which lanes are matched, as a bit. -/
theorem chosen_apply : chosen (F := Ideal) y1 x1 y2 x2 s (ix2 i j)
    = if Spec.Good (Spec.top (y1 (ix2 i j)) (x1 (ix2 i j)) (y2 (ix2 i j)) (x2 (ix2 i j)) s) ∧ Inside i j then 1#1 else 0#1 := by
  pointwise [chosen, valid_apply, best_apply, every]
  rw [ofBool_ite, andi_ite]
  rfl

/-- Which lanes are matched, as a number. -/
theorem matched_apply : matched (F := Ideal) y1 x1 y2 x2 s (ix2 i j)
    = if Spec.Good (Spec.top (y1 (ix2 i j)) (x1 (ix2 i j)) (y2 (ix2 i j)) (x2 (ix2 i j)) s) ∧ Inside i j then (1 : EReal) else 0 := by
  pointwise [matched, chosen_apply, every]
  exact select_ite _ _ _

/-- Which lanes count, as a number. -/
theorem counted_apply : counted (F := Ideal) y1 x1 y2 x2 s (ix2 i j)
    = if (Spec.Good (Spec.top (y1 (ix2 i j)) (x1 (ix2 i j)) (y2 (ix2 i j)) (x2 (ix2 i j)) s)
        ∨ Spec.Poor (Spec.top (y1 (ix2 i j)) (x1 (ix2 i j)) (y2 (ix2 i j)) (x2 (ix2 i j)) s)) ∧ Inside i j then (1 : EReal) else 0 := by
  pointwise [counted, chosen_apply, valid_apply, best_apply, every]
  rw [ofBool_ite, ori_ite, andi_ite, select_ite]
  refine if_congr ?_ rfl rfl
  exact ⟨fun h => ⟨h.1.imp And.left id, h.2⟩, fun h => ⟨h.1.imp (fun g => ⟨g, h.2⟩) id, h.2⟩⟩

/-- The smoothed distance in a lane. -/
theorem smooth_apply (t r : FVec Ideal S8x6144 .f32) : smooth (F := Ideal) t r (ix2 i j) = Spec.smooth (t (ix2 i j)) (r (ix2 i j)) := by
  pointwise [smooth, every]
  rfl

/-- The offset of the centres in a lane. -/
theorem offset_apply (lo hi g h : FVec Ideal S8x6144 .f32) : offset (F := Ideal) lo hi g h (ix2 i j)
    = Spec.shift (lo (ix2 i j)) (hi (ix2 i j)) (g (ix2 i j)) (h (ix2 i j)) := by
  pointwise [offset, every]
  rfl

/-- The logarithm of the lengths' ratio in a lane. -/
theorem scale_apply (lo hi g h : FVec Ideal S8x6144 .f32) : scale (F := Ideal) lo hi g h (ix2 i j)
    = Spec.stretch (lo (ix2 i j)) (hi (ix2 i j)) (g (ix2 i j)) (h (ix2 i j)) := by
  pointwise [scale, widen, every]
  rfl

/-- The regression loss of an anchor: its four smoothed distances where it is matched. -/
theorem regress_apply (r0 r1 r2 r3 : FVec Ideal S8x6144 .f32) : regress (F := Ideal) y1 x1 y2 x2 s r0 r1 r2 r3 (ix2 i j)
    = if Spec.Good (Spec.top (y1 (ix2 i j)) (x1 (ix2 i j)) (y2 (ix2 i j)) (x2 (ix2 i j)) s) ∧ Inside i j then
        ∑ k : Fin 4, Spec.smooth (Spec.target (y1 (ix2 i j)) (x1 (ix2 i j)) (y2 (ix2 i j)) (x2 (ix2 i j)) s k)
          ((![r0 (ix2 i j), r1 (ix2 i j), r2 (ix2 i j), r3 (ix2 i j)] : Fin 4 → EReal) k)
      else (0 : EReal) := by
  pointwise [regress, chosen_apply, smooth_apply, offset_apply, scale_apply, got_apply, every]
  rw [Fin.sum_univ_four]
  exact select_ite _ _ _

end Cert.KernelIdeal.Match
-- ==== Proof.MatchArr.lean ====
module
public import proofs.«01_k».proof.Proof.MatchLane
public import proofs.«01_k».proof.Proof.LaunchIdeal
public import Idealize.ShloMosaic.Lib.Pipeline.ValueKit
public import Idealize.ShloMosaic.Lib.Pipeline.Value

/-! The blocks of the matching region read from its arrays, and the arrays it leaves. -/

@[expose] public section
set_option maxRecDepth 16384
noncomputable section
namespace Cert.KernelIdeal.Match
open Cert.KernelIdeal Cert.KernelIdeal.Gen Cert.KernelIdeal.Own.K0
open Idealize.ShloMosaic Idealize.ShloMosaic.TcCoe
open Idealize.ShloMosaic.Pipeline (Dat)

/-- A lane of a whole block is the block without its unit axis. -/
theorem flat_apply (arg : Memref sig .tc .vmem S1x8x6144 .f32) (h : arg.IsWhole) (x : Vec Ideal S1x8x6144 .f32) (i : Fin 8) (j : Fin 6144) :
    flat arg h x (ix2 i j) = x (ix3 (0 : Fin 1) i j) := by
  unfold flat
  rw [show View.readAt (Elt Ideal) arg.view (Rect.unit (s := S1x8x6144) ![0, 0, 0] S1x8x6144.size inb_S1x8x6144_S1x8x6144_0_0_0).toLoadRect (h.unread x) = x
    from (View.readAt_full _ _ _).trans (h.read_unread x)]
  pointwise

/-- An entry of the table of a whole block. -/
theorem entry_apply (arg : Memref sig .tc .smem S1x20x5 .f32) (h : arg.IsWhole) (x : Vec Ideal S1x20x5 .f32) (m k : ℕ) :
    entry arg h x m k = x (ix3 (0 : Fin 1) ⟨m % 20, Nat.mod_lt _ (by omega)⟩ ⟨k % 5, Nat.mod_lt _ (by omega)⟩) := by
  unfold entry
  refine (congrFun (h.read_unread x) _).trans ?_
  refine congrArg x ?_
  funext d
  refine Fin.ext ?_
  match d with
  | ⟨0, _⟩ => rfl
  | ⟨1, _⟩ => show m % 20 + 1 * 0 = m % 20; omega
  | ⟨2, _⟩ => show k % 5 + 1 * 0 = k % 5; omega

/-- Where each window's block sits at a point. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0]
    ∧ win0_11.index t = ![t.val, 0, 0] ∧ win0_12.index t = ![t.val, 0, 0] ∧ win0_13.index t = ![t.val, 0, 0] :=
  (by decide +kernel : ∀ t : Fin grid0.N, _)

variable (V : (c : Dev nD) → (b : Ref sig .tc) → Buf (Elt Ideal) ((c : Thread nD τ).loc b)) (c : Dev nD) (t : Fin cfg0.N)
  (b : Fin 8) (i : Fin 8) (j : Fin 6144)

/-- The first coordinate of a lane's anchor, in its array. -/
theorem y1_read : y1At V c t (ix2 i j) = V c main_v5 (ix3 (0 : Fin 1) i j) := by
  refine (flat_apply _ _ _ i j).trans ?_
  blk_ext [iblk, idx t]

/-- The second coordinate of a lane's anchor, in its array. -/
theorem x1_read : x1At V c t (ix2 i j) = V c main_v10 (ix3 (0 : Fin 1) i j) := by
  refine (flat_apply _ _ _ i j).trans ?_
  blk_ext [iblk, idx t]

/-- The third coordinate of a lane's anchor, in its array. -/
theorem y2_read : y2At V c t (ix2 i j) = V c main_v15 (ix3 (0 : Fin 1) i j) := by
  refine (flat_apply _ _ _ i j).trans ?_
  blk_ext [iblk, idx t]

/-- The fourth coordinate of a lane's anchor, in its array. -/
theorem x2_read : x2At V c t (ix2 i j) = V c main_v20 (ix3 (0 : Fin 1) i j) := by
  refine (flat_apply _ _ _ i j).trans ?_
  blk_ext [iblk, idx t]

/-- The first regression of a lane, in its array. -/
theorem r0_read (h : t.val = b.val) : flat (ms0_4 t) (hs0_4 t) (iblk V c 4 t) (ix2 i j) = V c main_v24 (ix3 b i j) := by
  refine (flat_apply _ _ _ i j).trans ?_
  blk_ext [iblk, idx t]

/-- The second regression of a lane, in its array. -/
theorem r1_read (h : t.val = b.val) : flat (ms0_5 t) (hs0_5 t) (iblk V c 5 t) (ix2 i j) = V c main_v28 (ix3 b i j) := by
  refine (flat_apply _ _ _ i j).trans ?_
  blk_ext [iblk, idx t]

/-- The third regression of a lane, in its array. -/
theorem r2_read (h : t.val = b.val) : flat (ms0_6 t) (hs0_6 t) (iblk V c 6 t) (ix2 i j) = V c main_v32 (ix3 b i j) := by
  refine (flat_apply _ _ _ i j).trans ?_
  blk_ext [iblk, idx t]

/-- The fourth regression of a lane, in its array. -/
theorem r3_read (h : t.val = b.val) : flat (ms0_7 t) (hs0_7 t) (iblk V c 7 t) (ix2 i j) = V c main_v36 (ix3 b i j) := by
  refine (flat_apply _ _ _ i j).trans ?_
  blk_ext [iblk, idx t]

/-- A field of a box, in the array of boxes. -/
theorem box_read (h : t.val = b.val) (m k : ℕ) : boxAt V c t m k
    = V c main_arg3 (ix3 b ⟨m % 20, Nat.mod_lt _ (by omega)⟩ ⟨k % 5, Nat.mod_lt _ (by omega)⟩) := by
  refine (entry_apply _ _ _ m k).trans ?_
  blk_ext [iblk, idx t]

/-- The stored regression loss is the sum over all lanes. -/
theorem lanes_sum (x : Lane Ideal) (l : Fin 128) : k0_pay1 x (ix3 (0 : Fin 1) (0 : Fin 1) l) = ∑ i : Fin 8, ∑ j : Fin 6144, x (ix2 i j) := by
  pointwise [k0_pay1]

/-- The stored count is the sum over all lanes. -/
theorem lanes_sum' (x : Lane Ideal) (l : Fin 128) : k0_pay2 x (ix3 (0 : Fin 1) (0 : Fin 1) l) = ∑ i : Fin 8, ∑ j : Fin 6144, x (ix2 i j) := by
  pointwise [k0_pay2]

variable (𝒱₀ : Variants) {Ix : Type} [DecidableEq Ix] {U : Type} [Idealize.SL.RA.URA U] {Lvl : Type} [Preorder Lvl] (D : Dev nD → CellTallies nD τ sig Ix)

/-- The array of the mask that the region leaves. -/
theorem mask_array (h : t.val = b.val) :
    (dat (Ix := Ix) (U := U) (Lvl := Lvl) 𝒱₀ V D c).arrAt 9 cfg0.N (ix3 b i j)
      = counted (y1At V c t) (x1At V c t) (y2At V c t) (x2At V c t) (boxAt V c t) (ix2 i j) := by
  have key := (dat (Ix := Ix) (U := U) (Lvl := Lvl) 𝒱₀ V D c).arrAt_emb_eq_flushed 9
    (Pipeline.Window.hdisj_of_index_inj (cfg0.win 9) (by decide +kernel)) t (flush0_9 t) (ix3 (0 : Fin 1) i j)
  have e : ((cfg0.win 9).blk t).view.emb (ix3 (0 : Fin 1) i j) = ix3 b i j := by
    blk_ext [iblk, idx t]
  rw [e] at key
  refine key.trans ?_
  blk_simp
  rw [after0_9, counted_run]
  pointwise

/-- The array of matched lanes that the region leaves. -/
theorem good_array (h : t.val = b.val) :
    (dat (Ix := Ix) (U := U) (Lvl := Lvl) 𝒱₀ V D c).arrAt 10 cfg0.N (ix3 b i j)
      = matched (y1At V c t) (x1At V c t) (y2At V c t) (x2At V c t) (boxAt V c t) (ix2 i j) := by
  have key := (dat (Ix := Ix) (U := U) (Lvl := Lvl) 𝒱₀ V D c).arrAt_emb_eq_flushed 10
    (Pipeline.Window.hdisj_of_index_inj (cfg0.win 10) (by decide +kernel)) t (flush0_10 t) (ix3 (0 : Fin 1) i j)
  have e : ((cfg0.win 10).blk t).view.emb (ix3 (0 : Fin 1) i j) = ix3 b i j := by
    blk_ext [iblk, idx t]
  rw [e] at key
  refine key.trans ?_
  blk_simp
  rw [after0_10, matched_run]
  pointwise

/-- The array of classes that the region leaves. -/
theorem kind_array (h : t.val = b.val) :
    (dat (Ix := Ix) (U := U) (Lvl := Lvl) 𝒱₀ V D c).arrAt 11 cfg0.N (ix3 b i j)
      = got (y1At V c t) (x1At V c t) (y2At V c t) (x2At V c t) (boxAt V c t) 4 20 (ix2 i j) := by
  have key := (dat (Ix := Ix) (U := U) (Lvl := Lvl) 𝒱₀ V D c).arrAt_emb_eq_flushed 11
    (Pipeline.Window.hdisj_of_index_inj (cfg0.win 11) (by decide +kernel)) t (flush0_11 t) (ix3 (0 : Fin 1) i j)
  have e : ((cfg0.win 11).blk t).view.emb (ix3 (0 : Fin 1) i j) = ix3 b i j := by
    blk_ext [iblk, idx t]
  rw [e] at key
  refine key.trans ?_
  blk_simp
  rw [after0_11, class_run]
  pointwise

/-- The array of regression losses that the region leaves. -/
theorem regress_array (h : t.val = b.val) (l : Fin 128) :
    (dat (Ix := Ix) (U := U) (Lvl := Lvl) 𝒱₀ V D c).arrAt 12 cfg0.N (ix3 b (0 : Fin 1) l)
      = k0_pay1 (regress (y1At V c t) (x1At V c t) (y2At V c t) (x2At V c t) (boxAt V c t)
        (flat (ms0_4 t) (hs0_4 t) (iblk V c 4 t)) (flat (ms0_5 t) (hs0_5 t) (iblk V c 5 t))
        (flat (ms0_6 t) (hs0_6 t) (iblk V c 6 t)) (flat (ms0_7 t) (hs0_7 t) (iblk V c 7 t))) (ix3 (0 : Fin 1) (0 : Fin 1) l) := by
  have key := (dat (Ix := Ix) (U := U) (Lvl := Lvl) 𝒱₀ V D c).arrAt_emb_eq_flushed 12
    (Pipeline.Window.hdisj_of_index_inj (cfg0.win 12) (by decide +kernel)) t (flush0_12 t) (ix3 (0 : Fin 1) (0 : Fin 1) l)
  have e : ((cfg0.win 12).blk t).view.emb (ix3 (0 : Fin 1) (0 : Fin 1) l) = ix3 b (0 : Fin 1) l := by
    blk_ext [iblk, idx t]
  rw [e] at key
  refine key.trans ?_
  blk_simp
  rw [after0_12, regress_run]

/-- The array of counts that the region leaves. -/
theorem count_array (h : t.val = b.val) (l : Fin 128) :
    (dat (Ix := Ix) (U := U) (Lvl := Lvl) 𝒱₀ V D c).arrAt 13 cfg0.N (ix3 b (0 : Fin 1) l)
      = k0_pay2 (matched (y1At V c t) (x1At V c t) (y2At V c t) (x2At V c t) (boxAt V c t)) (ix3 (0 : Fin 1) (0 : Fin 1) l) := by
  have key := (dat (Ix := Ix) (U := U) (Lvl := Lvl) 𝒱₀ V D c).arrAt_emb_eq_flushed 13
    (Pipeline.Window.hdisj_of_index_inj (cfg0.win 13) (by decide +kernel)) t (flush0_13 t) (ix3 (0 : Fin 1) (0 : Fin 1) l)
  have e : ((cfg0.win 13).blk t).view.emb (ix3 (0 : Fin 1) (0 : Fin 1) l) = ix3 b (0 : Fin 1) l := by
    blk_ext [iblk, idx t]
  rw [e] at key
  refine key.trans ?_
  blk_simp
  rw [after0_13, count_run]

end Cert.KernelIdeal.Match
-- ==== Proof.HostIn.lean ====
module
public import proofs.«01_k».proof.Proof.Gen.KernelIdeal.Regions
public import Idealize.ShloMosaic.Lib.StableHlo.ReadAt
public import proofs.«01_k».proof.Proof.LaunchIdeal
public import proofs.«01_k».proof.Proof.Words
public import Idealize.ShloMosaic.Lib.Pointwise

/-! What the host operations hand the kernel's two parts, the arguments laid out in tiles, and what they make of its outputs. -/

@[expose] public section
set_option maxRecDepth 16384
noncomputable section
namespace Cert.KernelIdeal.Host
open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD) (b : Fin 8) (i : Fin 8) (j : Fin 6144)

/-- The classification logits, the regressions, the anchors and the boxes. -/
abbrev logits : (⟨S8x49104x80, .f32⟩ : BufTy).Contents (Elt Ideal) := m ((c.tc : Thread nD τ).loc main_arg0)
/-- The regressions. -/
abbrev regs : (⟨S8x49104x4, .f32⟩ : BufTy).Contents (Elt Ideal) := m ((c.tc : Thread nD τ).loc main_arg1)
/-- The anchors. -/
abbrev anchors : (⟨S1x49104x4, .f32⟩ : BufTy).Contents (Elt Ideal) := m ((c.tc : Thread nD τ).loc main_arg2)
/-- The boxes. -/
abbrev boxes : (⟨S8x20x5, .f32⟩ : BufTy).Contents (Elt Ideal) := m ((c.tc : Thread nD τ).loc main_arg3)

/-- The padded lane layout of the anchors' first coordinate. -/
theorem anchor0_apply (h : i.val * 6144 + j.val < 49104) : V17 m c (Proc.devRef .tc main_v5) (ix3 (0 : Fin 1) i j)
    = anchors m c (ix3 (0 : Fin 1) ⟨i.val * 6144 + j.val, h⟩ 0) := by
  unfold V17 V16 V15 V14 V13 V12 V11 V10 V9 V8 V7 V6 V5 V4 V3 V2 V1
  after_reads_at
  exact dif_pos h

/-- The padded lane layout of the anchors' second coordinate. -/
theorem anchor1_apply (h : i.val * 6144 + j.val < 49104) : V17 m c (Proc.devRef .tc main_v10) (ix3 (0 : Fin 1) i j)
    = anchors m c (ix3 (0 : Fin 1) ⟨i.val * 6144 + j.val, h⟩ 1) := by
  unfold V17 V16 V15 V14 V13 V12 V11 V10 V9 V8 V7 V6 V5 V4 V3 V2 V1
  after_reads_at
  exact dif_pos h

/-- The padded lane layout of the anchors' third coordinate. -/
theorem anchor2_apply (h : i.val * 6144 + j.val < 49104) : V17 m c (Proc.devRef .tc main_v15) (ix3 (0 : Fin 1) i j)
    = anchors m c (ix3 (0 : Fin 1) ⟨i.val * 6144 + j.val, h⟩ 2) := by
  unfold V17 V16 V15 V14 V13 V12 V11 V10 V9 V8 V7 V6 V5 V4 V3 V2 V1
  after_reads_at
  exact dif_pos h

/-- The padded lane layout of the anchors' fourth coordinate. -/
theorem anchor3_apply (h : i.val * 6144 + j.val < 49104) : V17 m c (Proc.devRef .tc main_v20) (ix3 (0 : Fin 1) i j)
    = anchors m c (ix3 (0 : Fin 1) ⟨i.val * 6144 + j.val, h⟩ 3) := by
  unfold V17 V16 V15 V14 V13 V12 V11 V10 V9 V8 V7 V6 V5 V4 V3 V2 V1
  after_reads_at
  exact dif_pos h

/-- The padded lane layout of the first regression. -/
theorem reg0_apply (h : i.val * 6144 + j.val < 49104) : V17 m c (Proc.devRef .tc main_v24) (ix3 b i j)
    = regs m c (ix3 b ⟨i.val * 6144 + j.val, h⟩ 0) := by
  unfold V17 V16 V15 V14 V13 V12 V11 V10 V9 V8 V7 V6 V5 V4 V3 V2 V1
  after_reads_at
  exact dif_pos h

/-- The padded lane layout of the second regression. -/
theorem reg1_apply (h : i.val * 6144 + j.val < 49104) : V17 m c (Proc.devRef .tc main_v28) (ix3 b i j)
    = regs m c (ix3 b ⟨i.val * 6144 + j.val, h⟩ 1) := by
  unfold V17 V16 V15 V14 V13 V12 V11 V10 V9 V8 V7 V6 V5 V4 V3 V2 V1
  after_reads_at
  exact dif_pos h

/-- The padded lane layout of the third regression. -/
theorem reg2_apply (h : i.val * 6144 + j.val < 49104) : V17 m c (Proc.devRef .tc main_v32) (ix3 b i j)
    = regs m c (ix3 b ⟨i.val * 6144 + j.val, h⟩ 2) := by
  unfold V17 V16 V15 V14 V13 V12 V11 V10 V9 V8 V7 V6 V5 V4 V3 V2 V1
  after_reads_at
  exact dif_pos h

/-- The padded lane layout of the fourth regression. -/
theorem reg3_apply (h : i.val * 6144 + j.val < 49104) : V17 m c (Proc.devRef .tc main_v36) (ix3 b i j)
    = regs m c (ix3 b ⟨i.val * 6144 + j.val, h⟩ 3) := by
  unfold V17 V16 V15 V14 V13 V12 V11 V10 V9 V8 V7 V6 V5 V4 V3 V2 V1
  after_reads_at
  exact dif_pos h

/-- The boxes are passed on as given. -/
theorem boxes_apply : V17 m c (Proc.devRef .tc main_arg3) = boxes m c := by
  unfold V17 V16 V15 V14 V13 V12 V11 V10 V9 V8 V7 V6 V5 V4 V3 V2 V1
  after_reads_simp

/-- The mask in a row is the mask the first part leaves. -/
theorem mask_apply (n : Fin 49152) : V21 m (Launched.outs0 m) c (Proc.devRef .tc main_v40) (ix3 b (0 : Fin 1) n)
    = Launched.after0 m c (Proc.devRef .tc main_v37_0) (ix3 b ⟨n / 6144, by omega⟩ ⟨n % 6144, by omega⟩) := by
  unfold V21 V20 V19
  rw [Launched.V18_eq']
  after_reads_at

/-- The matched lanes in a row are those the first part leaves. -/
theorem good_apply (n : Fin 49152) : V21 m (Launched.outs0 m) c (Proc.devRef .tc main_v41) (ix3 b (0 : Fin 1) n)
    = Launched.after0 m c (Proc.devRef .tc main_v37_1) (ix3 b ⟨n / 6144, by omega⟩ ⟨n % 6144, by omega⟩) := by
  unfold V21 V20 V19
  rw [Launched.V18_eq']
  after_reads_at

/-- The classes in a row are those the first part leaves. -/
theorem kind_apply (n : Fin 49152) : V21 m (Launched.outs0 m) c (Proc.devRef .tc main_v42) (ix3 b (0 : Fin 1) n)
    = Launched.after0 m c (Proc.devRef .tc main_v37_2) (ix3 b ⟨n / 6144, by omega⟩ ⟨n % 6144, by omega⟩) := by
  unfold V21 V20 V19
  rw [Launched.V18_eq']
  after_reads_at

/-- The first part leaves the logits alone. -/
theorem logits_kept : Launched.after0 m c (Proc.devRef .tc main_arg0) = logits m c := by
  rw [Launched.after0_of m c _ (by decide)]
  unfold V17 V16 V15 V14 V13 V12 V11 V10 V9 V8 V7 V6 V5 V4 V3 V2 V1
  after_reads_simp

/-- The padding is zero. -/
theorem pad_zero : FloatOps.sitofp (F := Ideal) FTy.f32 (0#32) = 0 := by
  change (((0#32 : BitVec 32).toInt : ℝ) : EReal) = 0
  rw [BitVec.toInt_zero, Int.cast_zero, EReal.coe_zero]

/-- The scores with their axes exchanged, padded with zero. -/
theorem logits_apply (k : Fin 80) (n : Fin 49152) : V21 m (Launched.outs0 m) c (Proc.devRef .tc main_v39) (ix3 b k n)
    = if h : n.val < 49104 then logits m c (ix3 b ⟨n, h⟩ k) else 0 := by
  unfold V21 V20 V19
  rw [Launched.V18_eq']
  after_reads_at
  rw [logits_kept, pad_zero]

/-- What the second part leaves of an image. -/
abbrev lossOf : EReal := V22 m (Launched.outs m) c (Proc.devRef .tc main_v43) (ix3 b (0 : Fin 1) (0 : Fin 128))

/-- The regression loss the first part leaves of an image. -/
abbrev regOf : EReal := V22 m (Launched.outs m) c (Proc.devRef .tc main_v37_3) (ix3 b (0 : Fin 1) (0 : Fin 128))

/-- The count the first part leaves of an image. -/
abbrev countOf : EReal := V22 m (Launched.outs m) c (Proc.devRef .tc main_v37_4) (ix3 b (0 : Fin 1) (0 : Fin 128))

/-- The first result from what the two parts leave. -/
theorem first_apply : Launched.last m c (Proc.devRef .tc main_v54) (ix1 (0 : Fin 1))
    = Ideal.div (∑ b : Fin 8, Ideal.div (lossOf m c b) (max (countOf m c b) 1)) (Ideal.ofBits .f32 0x41000000#32) := by
  unfold Launched.last V23
  after_reads_at

/-- The second result from what the two parts leave. -/
theorem second_apply : Launched.last m c (Proc.devRef .tc main_v65) (ix1 (0 : Fin 1))
    = Ideal.div (∑ b : Fin 8, Ideal.div (regOf m c b) (max (countOf m c b * Ideal.ofBits .f32 0x40800000#32) 1))
        (Ideal.ofBits .f32 0x41000000#32) := by
  unfold Launched.last V23
  after_reads_at

end Cert.KernelIdeal.Host
-- ==== Proof.RefRatio.lean ====
module
public import proofs.«01_k».proof.Proof.Gen.Own.ReferenceIdeal.Read
public import proofs.«01_k».proof.Proof.Spec
public import Idealize.ShloMosaic.Lib.Pointwise

/-! The reference's overlap ratios, and the box each anchor is matched to, read at an anchor. -/

@[expose] public section
set_option maxRecDepth 16384
noncomputable section
namespace Cert.ReferenceIdeal.Match
open Cert.ReferenceIdeal Cert.ReferenceIdeal.Gen Cert.ReferenceIdeal.Read
open Idealize.ShloMosaic Idealize.ShloMosaic.TcCoe
open Cert.Words (andi_ite ori_ite ofBool_ite select_ite)

variable (x0 : (⟨S8x49104x80, .f32⟩ : BufTy).Contents (Elt Ideal)) (x1 : (⟨S8x49104x4, .f32⟩ : BufTy).Contents (Elt Ideal))
  (x2 : (⟨S1x49104x4, .f32⟩ : BufTy).Contents (Elt Ideal)) (x3 : (⟨S8x20x5, .f32⟩ : BufTy).Contents (Elt Ideal))
  (b : Fin 8) (a : Fin 49104)

/-- The boxes of an image, both coordinates reduced to the table's sizes. -/
def box (m k : ℕ) : EReal := x3 (ix3 b ⟨m % 20, Nat.mod_lt _ (by omega)⟩ ⟨k % 5, Nat.mod_lt _ (by omega)⟩)

/-- Coordinate `k` of an anchor. -/
def anc (k : Fin 4) : EReal := x2 (ix3 (0 : Fin 1) a k)

/-- The reference's ratio of an anchor and a box. -/
theorem ratio_apply (m : Fin 20) : val_main_v102 (F := Ideal) x2 x3 (ix3 b a m)
    = Spec.ratios (anc x2 a 0) (anc x2 a 1) (anc x2 a 2) (anc x2 a 3) (box x3 b) m := by
  pointwise [val_main_v102, val_main_v101, val_main_v100, val_main_v99, val_main_v98, val_main_v97, val_main_v96, val_main_v95,
    val_main_v94, val_main_v93, val_main_v92, val_main_v91, val_main_v90, val_main_v89, val_main_v88, val_main_v87, val_main_v86,
    val_main_v85, val_main_v84, val_main_v83, val_main_v82, val_main_v81, val_main_v80, val_main_v79, val_main_v78, val_main_v77,
    val_main_v76, val_main_v75, val_main_v74, val_main_v73, val_main_v72, val_main_v71, val_main_v70, val_main_v69, val_main_v68,
    val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_v22, val_main_v0, val_main_cst_3, val_main_cst_4, val_main_cst_5]
  have hb : ∀ k : Fin 5, x3 (ix3 b m k) = box x3 b m k := fun k => by
    unfold box
    refine congrArg x3 (congrArg₂ (ix3 b) (Fin.ext ?_) (Fin.ext ?_))
    · exact (Nat.mod_eq_of_lt m.isLt).symm
    · exact (Nat.mod_eq_of_lt k.isLt).symm
  rw [hb 0, hb 1, hb 2, hb 3]
  rfl

/-- One pair of a value and a position beats another: its value is larger, or equal and it comes no later. -/
def Beats (p q : EReal × BitVec 32) : Prop := q.1 < p.1 ∨ (q.1 = p.1 ∧ p.2.toInt ≤ q.2.toInt)

/-- The order of the arg-max is transitive. -/
theorem Beats.trans {p q r : EReal × BitVec 32} (h : Beats p q) (h' : Beats q r) : Beats p r := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- The reducer returns one of its two pairs, one that beats both. -/
theorem reducer_beats (p q : EReal × BitVec 32) :
    (reducer_argmax_f32_i32 (F := Ideal) p q = p ∨ reducer_argmax_f32_i32 (F := Ideal) p q = q)
      ∧ Beats (reducer_argmax_f32_i32 (F := Ideal) p q) p ∧ Beats (reducer_argmax_f32_i32 (F := Ideal) p q) q := by
  have e : reducer_argmax_f32_i32 (F := Ideal) p q
      = (if q.1 < p.1 then p.1 else q.1, if q.1 < p.1 ∨ (p.1 = q.1 ∧ p.2.toInt < q.2.toInt) then p.2 else q.2) := by
    unfold reducer_argmax_f32_i32
    dsimp only
    rw [show FloatOps.cmpf (F := Ideal) CmpFPredicate.ogt p.1 q.1 = BitVec.ofBool (decide (q.1 < p.1)) from rfl,
      show FloatOps.cmpf (F := Ideal) CmpFPredicate.une p.1 p.1 = BitVec.ofBool (decide (p.1 ≠ p.1)) from rfl,
      show FloatOps.cmpf (F := Ideal) CmpFPredicate.oeq p.1 q.1 = BitVec.ofBool (decide (p.1 = q.1)) from rfl,
      show IntOp.cmpi CmpIPredicate.slt p.2 q.2 = BitVec.ofBool (p.2.slt q.2) from rfl, BitVec.slt_eq_decide]
    rw [ofBool_ite, ofBool_ite, ofBool_ite, ofBool_ite, ori_ite, andi_ite, ori_ite, select_ite, select_ite]
    simp only [ne_eq, not_true_eq_false, or_false]
  rw [e]
  obtain ⟨v, i⟩ := p
  obtain ⟨w, k⟩ := q
  dsimp only
  rcases lt_trichotomy w v with h | h | h
  · rw [if_pos h, if_pos (Or.inl h)]
    exact ⟨Or.inl rfl, Or.inr ⟨rfl, le_rfl⟩, Or.inl h⟩
  · subst h
    by_cases hk : i.toInt < k.toInt
    · rw [if_neg (lt_irrefl _), if_pos (Or.inr ⟨rfl, hk⟩)]
      exact ⟨Or.inl rfl, Or.inr ⟨rfl, le_rfl⟩, Or.inr ⟨rfl, hk.le⟩⟩
    · rw [if_neg (lt_irrefl _), if_neg (by rintro (h | ⟨-, h⟩); exacts [lt_irrefl _ h, hk h])]
      exact ⟨Or.inr rfl, Or.inr ⟨rfl, not_lt.1 hk⟩, Or.inr ⟨rfl, le_rfl⟩⟩
  · rw [if_neg h.not_gt, if_neg (by rintro (h' | ⟨h', -⟩); exacts [h.not_gt h', h.ne h'])]
    exact ⟨Or.inr rfl, Or.inl h, Or.inr ⟨rfl, le_rfl⟩⟩

/-- Folding the reducer over a list ends at the first pair or one of the list's, one that beats them all. -/
theorem fold_beats (L : List (EReal × BitVec 32)) : ∀ p : EReal × BitVec 32,
    (L.foldl (reducer_argmax_f32_i32 (F := Ideal)) p = p ∨ L.foldl (reducer_argmax_f32_i32 (F := Ideal)) p ∈ L)
      ∧ Beats (L.foldl (reducer_argmax_f32_i32 (F := Ideal)) p) p
      ∧ ∀ q ∈ L, Beats (L.foldl (reducer_argmax_f32_i32 (F := Ideal)) p) q := by
  induction L with
  | nil => exact fun p => ⟨Or.inl rfl, Or.inr ⟨rfl, le_rfl⟩, fun q h => by cases h⟩
  | cons q L ih =>
    intro p
    obtain ⟨h1, h2, h3⟩ := reducer_beats p q
    obtain ⟨i1, i2, i3⟩ := ih (reducer_argmax_f32_i32 (F := Ideal) p q)
    rw [List.foldl_cons]
    refine ⟨?_, i2.trans h2, fun r hr => ?_⟩
    · rcases i1 with i1 | i1
      · rcases h1 with h1 | h1
        · exact Or.inl (i1.trans h1)
        · exact Or.inr (List.mem_cons.2 (Or.inl (i1.trans h1)))
      · exact Or.inr (List.mem_cons_of_mem _ i1)
    · rcases List.mem_cons.1 hr with rfl | hr
      · exact i2.trans h3
      · exact i3 r hr

/-- The ratios of an anchor with the boxes of an image. -/
abbrev rat (m : ℕ) : EReal := Spec.ratios (anc x2 a 0) (anc x2 a 1) (anc x2 a 2) (anc x2 a 3) (box x3 b) m

section
variable {s t u : Shape} {axes : List (Fin s.rank)}

/-- An arg-max's position is that of the pair a fold over the reduced fiber ends at. -/
theorem arg_fold (x : FVec Ideal s .f32) (y : s.Idx → BitVec 32) (ix : u.Idx → EReal) (iy : u.Idx → BitVec 32)
    (h : s.ReducesTo axes t) (hu : 0 < u.numel) (j : t.Idx) (v : EReal) (n : BitVec 32)
    (hv : ix (Shape.Idx.first hu) = v) (hn : iy (Shape.Idx.first hu) = n) :
    (Host.argReduce (reducer_argmax_f32_i32 (F := Ideal)) x y ix iy h hu j).2
      = ((Host.argReduceFiber x y h j).foldl (reducer_argmax_f32_i32 (F := Ideal)) (v, n)).2 := by
  rw [Ideal.argReduce_eq_reduce2, Host.reduce2_eq_foldl_fiber, hv, hn]

/-- The pairs of a reduced fiber. -/
theorem mem_fiber (x : s.Idx → EReal) (y : s.Idx → BitVec 32) (h : s.ReducesTo axes t) (j : t.Idx) (q : EReal × BitVec 32) :
    q ∈ Host.argReduceFiber x y h j ↔ ∃ i : s.Idx, h.drop i = j ∧ q = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, decide_eq_true ?_⟩, ?_⟩
    · rw [Equiv.symm_apply_apply]; exact hi
    · rw [Equiv.symm_apply_apply]

/-- A fold over a fiber that holds `N` pairs, of values none below the first's, ends at the position of the first largest. -/
theorem fold_first (L : List (EReal × BitVec 32)) (N : ℕ) (hN : 0 < N) (hs : N < 2 ^ 31) (r : ℕ → EReal) (hr : ∀ m, 0 ≤ r m)
    (hL : ∀ q, q ∈ L ↔ ∃ m : Fin N, q = (r m, BitVec.ofNat 32 m)) :
    ∃ m : Fin N, (L.foldl (reducer_argmax_f32_i32 (F := Ideal)) (⊥, 0#32)).2 = BitVec.ofNat 32 m
      ∧ ∀ n : Fin N, r n < r m ∨ (r n = r m ∧ m.val ≤ n.val) := by
  obtain ⟨h1, h2, h3⟩ := fold_beats L (⊥, 0#32)
  generalize L.foldl (reducer_argmax_f32_i32 (F := Ideal)) (⊥, 0#32) = p at h1 h2 h3
  have hp : p ∈ L := by
    rcases h1 with rfl | h
    · exfalso
      have h0 := h3 _ ((hL _).2 ⟨⟨0, hN⟩, rfl⟩)
      have hb : (⊥ : EReal) < r 0 := lt_of_lt_of_le EReal.bot_lt_zero (hr 0)
      rcases h0 with h0 | h0
      · exact absurd h0 (not_lt.2 bot_le)
      · exact hb.ne' h0.1
    · exact h
  obtain ⟨m, rfl⟩ := (hL _).1 hp
  refine ⟨m, rfl, fun n => ?_⟩
  have ht : ∀ k : Fin N, (BitVec.ofNat 32 k.val).toInt = k.val := fun k => by
    have := k.isLt
    rw [BitVec.toInt_eq_toNat_of_lt (by rw [BitVec.toNat_ofNat]; omega), BitVec.toNat_ofNat]
    omega
  rcases h3 _ ((hL _).2 ⟨n, rfl⟩) with h | ⟨h, k⟩
  · exact Or.inl h
  · refine Or.inr ⟨h, ?_⟩
    dsimp only at k
    rw [ht, ht] at k
    omega

/-- An arg-max over a fiber that holds `N` values at the positions in order, none negative: the first largest one's position. -/
theorem arg_first (x : FVec Ideal s .f32) (y : s.Idx → BitVec 32) (ix : u.Idx → EReal) (iy : u.Idx → BitVec 32)
    (h : s.ReducesTo axes t) (hu : 0 < u.numel) (g : t.Idx → BitVec 32)
    (hg : g = fun j => (Host.argReduce (reducer_argmax_f32_i32 (F := Ideal)) x y ix iy h hu j).2)
    (hv : ∀ i, ix i = (⊥ : EReal)) (hn : ∀ i, iy i = 0#32) (j : t.Idx)
    (N : ℕ) (hN : 0 < N) (hs : N < 2 ^ 31) (r : ℕ → EReal) (hr : ∀ m, 0 ≤ r m) (at' : Fin N → s.Idx)
    (hd : ∀ i, h.drop i = j ↔ ∃ m, i = at' m) (hx : ∀ m, x (at' m) = r m) (hy : ∀ m, y (at' m) = BitVec.ofNat 32 m) :
    ∃ m : Fin N, g j = BitVec.ofNat 32 m ∧ ∀ n : Fin N, r n < r m ∨ (r n = r m ∧ m.val ≤ n.val) := by
  subst hg
  beta_reduce
  rw [arg_fold x y ix iy h hu j ⊥ 0#32 (hv _) (hn _)]
  refine fold_first _ N hN hs r hr fun q => ?_
  rw [mem_fiber]
  constructor
  · rintro ⟨i, hi, rfl⟩
    obtain ⟨m, rfl⟩ := (hd i).1 hi
    exact ⟨m, Prod.ext (hx m) (hy m)⟩
  · rintro ⟨m, rfl⟩
    exact ⟨at' m, (hd _).2 ⟨m, rfl⟩, Prod.ext (hx m).symm (hy m).symm⟩
end

/-- The elements an anchor's arg-max runs over. -/
theorem drop_iff (i : S8x49104x20.Idx) : (reducesTo_S8x49104x20_S8x49104_d2).drop i = ix2 b a ↔ ∃ m : Fin 20, i = ix3 b a m := by
  have h0 : ((reducesTo_S8x49104x20_S8x49104_d2).drop i 0 : Nat) = i 0 := Shape.ReducesTo.drop_apply_val _ i 0
  have h1 : ((reducesTo_S8x49104x20_S8x49104_d2).drop i 1 : Nat) = i 1 := Shape.ReducesTo.drop_apply_val _ i 1
  constructor
  · intro h
    refine ⟨i 2, ?_⟩
    rw [h] at h0 h1
    funext d
    refine Fin.ext ?_
    match d with
    | ⟨0, _⟩ => exact h0.symm
    | ⟨1, _⟩ => exact h1.symm
    | ⟨2, _⟩ => rfl
  · rintro ⟨m, rfl⟩
    funext d
    refine Fin.ext ?_
    match d with
    | ⟨0, _⟩ => exact h0
    | ⟨1, _⟩ => exact h1

/-- The value the arg-max starts from. -/
theorem start_bot (i : S_.Idx) : val_main_call1_cst (F := Ideal) i = (⊥ : EReal) := by
  pointwise [val_main_call1_cst]
  exact Words.bot

/-- The position the arg-max starts from. -/
theorem start_zero (i : S_.Idx) : val_main_call1_c (F := Ideal) i = 0#32 := by
  pointwise [val_main_call1_c]

/-- The position paired with a ratio. -/
theorem position_apply (m : Fin 20) : val_main_call1_v0 (F := Ideal) (ix3 b a m) = BitVec.ofNat 32 m := by
  pointwise [val_main_call1_v0]

/-- The position the reference picks is that of the first largest ratio. -/
theorem pick_apply : ∃ m : Fin 20, val_main_v104 (F := Ideal) x2 x3 (ix2 b a) = BitVec.ofNat 32 m
    ∧ ∀ n : Fin 20, rat x2 x3 b a n < rat x2 x3 b a m ∨ (rat x2 x3 b a n = rat x2 x3 b a m ∧ m.val ≤ n.val) := by
  exact arg_first (val_main_v102 (F := Ideal) x2 x3) (val_main_call1_v0 (F := Ideal)) (val_main_call1_cst (F := Ideal)) (val_main_call1_c (F := Ideal))
    reducesTo_S8x49104x20_S8x49104_d2 h_S_ (val_main_v104 (F := Ideal) x2 x3) (by delta val_main_v104; rfl) start_bot
    start_zero (ix2 b a) 20 (by omega) (by omega) (rat x2 x3 b a)
    (fun _ => Spec.overlap_nonneg _ _ _ _ _) (fun m => ix3 b a m) (drop_iff b a) (ratio_apply x2 x3 b a) (position_apply b a)

/-- The reference's best ratio of an anchor. -/
theorem best_apply : val_main_v103 (F := Ideal) x2 x3 (ix2 b a)
    = Spec.top (anc x2 a 0) (anc x2 a 1) (anc x2 a 2) (anc x2 a 3) (box x3 b) := by
  pointwise [val_main_v103, val_main_cst_6, ratio_apply]
  obtain ⟨m, -, hm⟩ := pick_apply x2 x3 b a
  refine Eq.trans ?_ (Spec.run_first (rat x2 x3 b a) (fun _ => 0) (fun _ => Spec.overlap_nonneg _ _ _ _ _) m 20 m.isLt
    (fun n hn => hm ⟨n, hn⟩)).1.symm
  apply le_antisymm
  · refine (Finset.fold_max_le _).2 ⟨?_, fun n _ => (hm n).elim le_of_lt fun h => h.1.le⟩
    rw [Words.bot]
    exact bot_le
  · exact (Finset.le_fold_max _).2 (Or.inr ⟨m, Finset.mem_univ _, le_rfl⟩)

/-- The rows the gather takes: of each image, the row its start index names. -/
theorem gather_apply (idx : IVec S8x49104x1 32) (k : Fin 5) :
    Host.gather gather_S8x20x5_S8x49104x1_S8x49104x5_2_1_0_0_1_2_115 x3 idx (ix3 b a k)
      = x3 (ix3 b ⟨min (idx (ix3 b a (0 : Fin 1))).toInt.toNat 19, by omega⟩ k) := by
  unfold Host.gather
  congr 1
  funext d
  refine Fin.ext ?_
  show (gather_S8x20x5_S8x49104x1_S8x49104x5_2_1_0_0_1_2_115).start (ix3 b a k) idx d
      + (gather_S8x20x5_S8x49104x1_S8x49104x5_2_1_0_0_1_2_115).batchCoord (ix3 b a k) d
      + (gather_S8x20x5_S8x49104x1_S8x49104x5_2_1_0_0_1_2_115).offCoord (ix3 b a k) d = _
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.start_batching _ _ _ _ (by decide), GatherDims.offCoord_eq_zero _ _ _ (by decide)]
    rw [Nat.zero_add, Nat.add_zero]
    unfold GatherDims.batchCoord
    rw [dif_pos (by decide)]
    rfl
  · rw [GatherDims.batchCoord_eq_zero _ _ _ (by decide), GatherDims.offCoord_eq_zero _ _ _ (by decide)]
    show (gather_S8x20x5_S8x49104x1_S8x49104x5_2_1_0_0_1_2_115).start (ix3 b a k) idx 1 = _
    unfold GatherDims.start
    rw [dif_pos (by decide)]
    refine congrArg (fun j => min (idx j).toInt.toNat 19) ?_
    funext e
    refine Fin.ext ?_
    match e with
    | ⟨0, _⟩ => rfl
    | ⟨1, _⟩ => rfl
    | ⟨2, _⟩ => rfl
  · rw [GatherDims.batchCoord_eq_zero _ _ _ (by decide)]
    unfold GatherDims.start GatherDims.offCoord
    rw [dif_neg (by decide), dif_pos (by decide)]
    rw [Nat.zero_add]
    rfl

/-- A row counted from the table's start is not moved by the rule for negative rows. -/
theorem wrap_row : ∀ m : Fin 20, Scalar.select (IntOp.cmpi CmpIPredicate.slt (BitVec.ofNat 32 ↑m) 0#32)
    (IntOp.addi (BitVec.ofNat 32 ↑m) 20#32) (BitVec.ofNat 32 ↑m) = BitVec.ofNat 32 ↑m := by
  decide

/-- A row of the table is not moved by clamping. -/
theorem clamp_row : ∀ m : Fin 20, min (BitVec.ofNat 32 m.val).toInt.toNat 19 = m.val % 20 := by
  decide

/-- What the reference gathers for an anchor: the fields of its best box. -/
theorem field_apply (k : Fin 5) : val_main_v116 (F := Ideal) x2 x3 (ix3 b a k)
    = Spec.field (anc x2 a 0) (anc x2 a 1) (anc x2 a 2) (anc x2 a 3) (box x3 b) k := by
  obtain ⟨m, hm, hf⟩ := pick_apply x2 x3 b a
  unfold val_main_v116
  rw [gather_apply]
  have hi : val_main_v115 (F := Ideal) x2 x3 (ix3 b a (0 : Fin 1)) = BitVec.ofNat 32 m := by
    pointwise [val_main_v115, val_main_v114, val_main_v113, val_main_v112, val_main_v111, val_main_v110, val_main_c_8, val_main_c_9, hm]
    exact wrap_row m
  refine Eq.trans ?_ (Spec.run_first (rat x2 x3 b a) (fun m => box x3 b m k) (fun _ => Spec.overlap_nonneg _ _ _ _ _) m 20 m.isLt
    (fun n hn => hf ⟨n, hn⟩)).2.symm
  unfold box
  refine congrArg x3 (congrArg₂ (ix3 b) (Fin.ext ?_) (Fin.ext ?_))
  · exact (congrArg (fun w : BitVec 32 => min w.toInt.toNat 19) hi).trans (clamp_row m)
  · exact (Nat.mod_eq_of_lt k.isLt).symm

end Cert.ReferenceIdeal.Match
-- ==== Proof.RefLoss.lean ====
module
public import proofs.«01_k».proof.Proof.RefRatio
public import proofs.«01_k».proof.Proof.Score

/-! The reference's losses read at an image. -/

@[expose] public section
set_option maxRecDepth 16384
noncomputable section
namespace Cert.ReferenceIdeal.Match
open Cert.ReferenceIdeal Cert.ReferenceIdeal.Gen Cert.ReferenceIdeal.Read
open Idealize.ShloMosaic Idealize.ShloMosaic.TcCoe
open Cert.Words (andi_ite ori_ite ofBool_ite select_ite)

variable (x0 : (⟨S8x49104x80, .f32⟩ : BufTy).Contents (Elt Ideal)) (x1 : (⟨S8x49104x4, .f32⟩ : BufTy).Contents (Elt Ideal))
  (x2 : (⟨S1x49104x4, .f32⟩ : BufTy).Contents (Elt Ideal)) (x3 : (⟨S8x20x5, .f32⟩ : BufTy).Contents (Elt Ideal))
  (b : Fin 8) (a : Fin 49104)

/-- The best ratio of an anchor with the boxes of an image. -/
abbrev top : EReal := Spec.top (anc x2 a 0) (anc x2 a 1) (anc x2 a 2) (anc x2 a 3) (box x3 b)

/-- The class of an anchor's best box. -/
abbrev kind : EReal := Spec.field (anc x2 a 0) (anc x2 a 1) (anc x2 a 2) (anc x2 a 3) (box x3 b) 4

/-- The reference's matched anchors. -/
theorem good_apply : val_main_v106 (F := Ideal) x2 x3 (ix2 b a) = if Spec.Good (top x2 x3 b a) then 1#1 else 0#1 := by
  rw [val_main_v106_apply, best_apply]
  pointwise [val_main_v105, val_main_cst_7]
  exact ofBool_ite _

/-- The reference's background anchors. -/
theorem poor_apply : val_main_v119 (F := Ideal) x2 x3 (ix2 b a) = if Spec.Poor (top x2 x3 b a) then 1#1 else 0#1 := by
  rw [val_main_v119_apply, best_apply]
  pointwise [val_main_v118, val_main_cst_11]
  exact ofBool_ite _

attribute [local irreducible] val_main_v106 val_main_v119 val_main_v116

/-- The class of an anchor's best box as an integer. -/
theorem kind_apply : val_main_v126 (F := Ideal) x2 x3 (ix2 b a) = Ideal.fptosi 32 (kind x2 x3 b a) := by
  pointwise [val_main_v126, val_main_v125, val_main_v124, field_apply]
  rfl

attribute [local irreducible] val_main_v126

/-- The bit of an integer equality. -/
theorem cmpi_eq_ite {w : ℕ} (x y : BitVec w) : IntOp.cmpi CmpIPredicate.eq x y = if x = y then 1#1 else 0#1 := by
  by_cases h : x = y
  · rw [if_pos h, h]
    show BitVec.ofBool (y == y) = _
    rw [beq_self_eq_true]; rfl
  · rw [if_neg h]
    show BitVec.ofBool (x == y) = _
    rw [beq_eq_false_iff_ne.2 h]; rfl

/-- The predicate bit of a decided proposition as a number. -/
theorem uitofp_ite (p : Prop) [Decidable p] : FloatOps.uitofp (F := Ideal) FTy.f32 (if p then 1#1 else 0#1) = if p then (1 : EReal) else 0 := by
  by_cases h : p
  · rw [if_pos h, if_pos h]
    show (((1#1 : BitVec 1).toNat : ℝ) : EReal) = 1
    norm_num
  · rw [if_neg h, if_neg h]
    show (((0#1 : BitVec 1).toNat : ℝ) : EReal) = 0
    norm_num

/-- The comparison of a class with that of the best box. -/
theorem hit_apply (c : Fin 80) : val_main_call4_v5 (F := Ideal) x2 x3 (ix3 b a c)
    = if Ideal.fptosi 32 (kind x2 x3 b a) = BitVec.ofNat 32 c then 1#1 else 0#1 := by
  pointwise [val_main_call4_v0, val_main_call4_v1, val_main_call4_v2, val_main_call4_v3, val_main_call4_v4,
    val_main_call4_v5, kind_apply]
  exact cmpi_eq_ite _ _

/-- The one-hot entry as a bit. -/
theorem hot_apply (c : Fin 80) : val_main_v130 (F := Ideal) x2 x3 (ix3 b a c)
    = if Ideal.fptosi 32 (kind x2 x3 b a) = BitVec.ofNat 32 c then 1#1 else 0#1 := by
  rw [val_main_v130_apply, val_main_v127_apply, hit_apply, uitofp_ite]
  pointwise [val_main_v129, val_main_cst_14]
  rw [ofBool_ite]
  refine if_congr ?_ rfl rfl
  by_cases h : Ideal.fptosi 32 (kind x2 x3 b a) = BitVec.ofNat 32 c
  · rw [if_pos h, Words.half, ← EReal.coe_one, EReal.coe_lt_coe_iff]
    exact ⟨fun _ => h, fun _ => by norm_num⟩
  · rw [if_neg h, Words.half, ← EReal.coe_zero, EReal.coe_lt_coe_iff]
    exact ⟨fun h' => absurd h' (by norm_num), fun h' => absurd h' h⟩

/-- The class target of an anchor: one or zero at a matched anchor, zero at a background one, minus one elsewhere. -/
theorem goal_apply (c : Fin 80) : val_main_v133 (F := Ideal) x2 x3 (ix3 b a c)
    = if Spec.Good (top x2 x3 b a) then if Ideal.fptosi 32 (kind x2 x3 b a) = BitVec.ofNat 32 c then (1 : EReal) else 0
      else if Spec.Poor (top x2 x3 b a) then 0 else Ideal.ofBits .f32 0xBF800000#32 := by
  rw [val_main_v133_apply, val_main_v132_apply, hot_apply]
  pointwise [val_main_v131, val_main_v128,
    val_main_v123, val_main_v122, val_main_v121, val_main_v120, val_main_v117, good_apply, poor_apply,
    val_main_call2_v0, val_main_call2_v1, val_main_call2_v2, val_main_call2_v3, val_main_call2_v4, val_main_call3_v0, val_main_call3_v1,
    val_main_call3_v2, val_main_call3_v3, val_main_call5_v0, val_main_call5_v1, val_main_call5_v2, val_main_cst_10, val_main_cst_12,
    val_main_cst_13, val_main_cst_15]
  rw [andi_ite, select_ite, select_ite, select_ite]
  have e1 : id (constant (F := Ideal) S_ FTy.f32 1065353216#32) ix0 = (1 : EReal) := Words.one
  have e0 : id (constant (F := Ideal) S_ FTy.f32 0#32) ix0 = (0 : EReal) := Words.zero
  rw [e1, e0]
  by_cases h : Spec.Good (top x2 x3 b a)
  · rw [if_pos h]
    by_cases h' : Ideal.fptosi 32 (kind x2 x3 b a) = BitVec.ofNat 32 c
    · rw [if_pos ⟨h, h'⟩, if_pos h', if_pos h]
    · rw [if_neg (fun k => h' k.2), if_neg h', if_pos h]
  · rw [if_neg (fun k => h k.1), if_neg h, if_neg h]

attribute [local irreducible] val_main_v133

/-- The reference's clipped scores. -/
theorem clip_apply (i : S8x49104x80.Idx) : val_main_v21 (F := Ideal) x0 i = Spec.clip (x0 i) := by
  idx_vars i
  pointwise [val_main_v21, val_main_call0_v0, val_main_call0_v1, val_main_call0_v2, val_main_call0_v3, val_main_call0_v4, val_main_cst_1, val_main_cst_2]
  rfl

attribute [local irreducible] val_main_v21

/-- The class loss of one score, from its target and the clipped score. -/
theorem loss_apply (i : S8x49104x80.Idx) (t p : EReal) (ht : val_main_v133 (F := Ideal) x2 x3 i = t) (hp : val_main_v21 (F := Ideal) x0 i = p) :
    val_main_v159 (F := Ideal) x0 x2 x3 i
      = if t ≠ Ideal.ofBits .f32 0xBF800000#32 then
          (Ideal.ofBits .f32 0x3F000000#32 * Ideal.pow (if t = 1 then 1 - p else p) (Ideal.ofBits .f32 0x40000000#32))
            * -(t * Ideal.log p + (1 - t) * Ideal.log (1 - p))
        else 0 := by
  rw [val_main_v159_apply, val_main_v157_apply, val_main_v158_apply, val_main_v145_apply, val_main_v144_apply, val_main_v136_apply,
    val_main_v135_apply, val_main_v143_apply, val_main_v141_apply, val_main_v138_apply, val_main_v140_apply, val_main_v155_apply, val_main_v154_apply,
    val_main_v147_apply, val_main_v146_apply, val_main_v153_apply, val_main_v149_apply, val_main_v152_apply, val_main_v151_apply, ht, hp]
  have k134 : val_main_v134 (F := Ideal) i = (1 : EReal) := by idx_vars i; pointwise [val_main_v134, val_main_cst_16]
  have k137 : val_main_v137 (F := Ideal) i = (1 : EReal) := by idx_vars i; pointwise [val_main_v137, val_main_cst_19]
  have k139 : val_main_v139 (F := Ideal) i = (1 : EReal) := by idx_vars i; pointwise [val_main_v139, val_main_cst_20]
  have k148 : val_main_v148 (F := Ideal) i = (1 : EReal) := by idx_vars i; pointwise [val_main_v148, val_main_cst_22]
  have k150 : val_main_v150 (F := Ideal) i = (1 : EReal) := by idx_vars i; pointwise [val_main_v150, val_main_cst_23]
  have k142 : val_main_v142 (F := Ideal) i = Ideal.ofBits .f32 0x40000000#32 := by idx_vars i; pointwise [val_main_v142, val_main_cst_21]
  have k156 : val_main_v156 (F := Ideal) i = Ideal.ofBits .f32 0xBF800000#32 := by idx_vars i; pointwise [val_main_v156, val_main_cst_24]
  have k63 : val_main_call6_v3 (F := Ideal) i = Ideal.ofBits .f32 0x3F000000#32 := by
    idx_vars i; pointwise [val_main_call6_v3, val_main_call6_v0, val_main_cst_17]
  have k62 : val_main_call6_v2 (F := Ideal) i = Ideal.ofBits .f32 0x3F000000#32 := by
    idx_vars i; pointwise [val_main_call6_v2, val_main_call6_v1, val_main_cst_18]
  have k82 : val_main_call8_v2 (F := Ideal) i = (0 : EReal) := by
    idx_vars i; pointwise [val_main_call8_v2, val_main_call8_v1, val_main_call8_v0, val_main_cst_25]; exact Words.zero
  rw [k134, k137, k139, k148, k150, k142, k156, k63, k62, k82]
  show Scalar.select (BitVec.ofBool (decide (t ≠ Ideal.ofBits .f32 0xBF800000#32)))
    ((Scalar.select (BitVec.ofBool (decide (t = 1))) (Ideal.ofBits .f32 0x3F000000#32) (Ideal.ofBits .f32 0x3F000000#32)
      * Ideal.pow (Scalar.select (BitVec.ofBool (decide (t = 1))) (1 - p) p) (Ideal.ofBits .f32 0x40000000#32))
      * -(t * Ideal.log p + (1 - t) * Ideal.log (1 - p))) (0 : EReal) = _
  rw [ofBool_ite, ofBool_ite, select_ite, select_ite, select_ite, ite_self]

/-- The class loss of one score is the real number the specification names. -/
theorem class_apply (c : Fin 80) : val_main_v159 (F := Ideal) x0 x2 x3 (ix3 b a c)
    = ((Spec.score (top x2 x3 b a) (kind x2 x3 b a) c (Spec.clipR (x0 (ix3 b a c))) : ℝ) : EReal) := by
  rw [loss_apply x0 x2 x3 _ _ _ (goal_apply x2 x3 b a c) ((clip_apply x0 _).trans (Spec.clip_coe _))]
  have h0 := Spec.clipR_pos (x0 (ix3 b a c))
  have h1 := Spec.clipR_lt (x0 (ix3 b a c))
  unfold Spec.score
  by_cases hg : Spec.Good (top x2 x3 b a)
  · rw [if_pos hg, if_pos hg]
    by_cases hh : Ideal.fptosi 32 (kind x2 x3 b a) = BitVec.ofNat 32 c
    · rw [if_pos hh, if_pos hh]
      exact Spec.spike_one _ h0 h1
    · rw [if_neg hh, if_neg hh]
      exact Spec.ground_zero _ h0 h1
  · rw [if_neg hg, if_neg hg]
    by_cases hp : Spec.Poor (top x2 x3 b a)
    · rw [if_pos hp, if_pos hp]
      exact Spec.ground_zero _ h0 h1
    · rw [if_neg hp, if_neg hp, if_neg (fun h => h rfl)]
      rfl

end Cert.ReferenceIdeal.Match
-- ==== Proof.RefReg.lean ====
module
public import proofs.«01_k».proof.Proof.RefLoss
public import Idealize.ShloMosaic.Lib.StableHlo.Predicate

/-! The reference's regression losses, and the sums over an image. -/

@[expose] public section
set_option maxRecDepth 16384
noncomputable section
namespace Cert.ReferenceIdeal.Match
open Cert.ReferenceIdeal Cert.ReferenceIdeal.Gen Cert.ReferenceIdeal.Read
open Idealize.ShloMosaic Idealize.ShloMosaic.TcCoe
open Cert.Words (andi_ite ori_ite ofBool_ite select_ite)
open Idealize.ShloMosaic.StableHlo.Predicate (ij)

variable (x0 : (⟨S8x49104x80, .f32⟩ : BufTy).Contents (Elt Ideal)) (x1 : (⟨S8x49104x4, .f32⟩ : BufTy).Contents (Elt Ideal))
  (x2 : (⟨S1x49104x4, .f32⟩ : BufTy).Contents (Elt Ideal)) (x3 : (⟨S8x20x5, .f32⟩ : BufTy).Contents (Elt Ideal))
  (b : Fin 8) (a : Fin 49104)

attribute [local irreducible] val_main_v116 val_main_v106

/-- Field `k` of an anchor's best box. -/
abbrev fld (k : ℕ) : EReal := Spec.field (anc x2 a 0) (anc x2 a 1) (anc x2 a 2) (anc x2 a 3) (box x3 b) k

/-- The first regression target. -/
theorem td0_apply : val_main_v195 (F := Ideal) x2 x3 (ix2 b a)
    = Spec.shift (anc x2 a 0) (anc x2 a 2) (fld x2 x3 b a 1) (fld x2 x3 b a 3) := by
  pointwise [val_main_v195, val_main_v194, val_main_v193, val_main_v192, val_main_v191, val_main_v190, val_main_v179, val_main_v178, val_main_v177,
    val_main_v176, val_main_v175, val_main_v169, val_main_v168, val_main_v167, val_main_v166, val_main_v165, val_main_v20, val_main_v19, val_main_v18,
    val_main_v17, val_main_v16, val_main_v10, val_main_v9, val_main_v8, val_main_v7, val_main_v6, val_main_v0, val_main_cst_27, val_main_cst_0,
    field_apply]
  rfl

/-- The second regression target. -/
theorem td1_apply : val_main_v189 (F := Ideal) x2 x3 (ix2 b a)
    = Spec.shift (anc x2 a 1) (anc x2 a 3) (fld x2 x3 b a 0) (fld x2 x3 b a 2) := by
  pointwise [val_main_v189, val_main_v188, val_main_v187, val_main_v186, val_main_v185, val_main_v184, val_main_v174, val_main_v173, val_main_v172,
    val_main_v171, val_main_v170, val_main_v164, val_main_v163, val_main_v162, val_main_v161, val_main_v160, val_main_v15, val_main_v14, val_main_v13,
    val_main_v12, val_main_v11, val_main_v5, val_main_v4, val_main_v3, val_main_v2, val_main_v1, val_main_v0, val_main_cst_26, val_main_cst,
    field_apply]
  rfl

/-- The third regression target. -/
theorem td2_apply : val_main_v203 (F := Ideal) x2 x3 (ix2 b a)
    = Spec.stretch (anc x2 a 0) (anc x2 a 2) (fld x2 x3 b a 1) (fld x2 x3 b a 3) := by
  pointwise [val_main_v203, val_main_v202, val_main_v201, val_main_v200, val_main_v183, val_main_v182, val_main_v169, val_main_v168, val_main_v167,
    val_main_v166, val_main_v165, val_main_v10, val_main_v9, val_main_v8, val_main_v7, val_main_v6, val_main_v0, val_main_cst_29, field_apply]
  rfl

/-- The fourth regression target. -/
theorem td3_apply : val_main_v199 (F := Ideal) x2 x3 (ix2 b a)
    = Spec.stretch (anc x2 a 1) (anc x2 a 3) (fld x2 x3 b a 0) (fld x2 x3 b a 2) := by
  pointwise [val_main_v199, val_main_v198, val_main_v197, val_main_v196, val_main_v181, val_main_v180, val_main_v164, val_main_v163, val_main_v162,
    val_main_v161, val_main_v160, val_main_v5, val_main_v4, val_main_v3, val_main_v2, val_main_v1, val_main_v0, val_main_cst_28, field_apply]
  rfl

attribute [local irreducible] val_main_v195 val_main_v189 val_main_v203 val_main_v199

/-- The regression targets, stacked. -/
theorem target_apply (k : Fin 4) : val_main_v208 (F := Ideal) x2 x3 (ix3 b a k)
    = Spec.target (anc x2 a 0) (anc x2 a 1) (anc x2 a 2) (anc x2 a 3) (box x3 b) k := by
  fin_cases k
  · pointwise [val_main_v208, val_main_v204, td0_apply]
    rfl
  · pointwise [val_main_v208, val_main_v205, td1_apply]
    rfl
  · pointwise [val_main_v208, val_main_v206, td2_apply]
    rfl
  · pointwise [val_main_v208, val_main_v207, td3_apply]
    rfl

attribute [local irreducible] val_main_v208

/-- The smoothed distance of a target. -/
theorem smooth_apply (k : Fin 4) : val_main_v218 (F := Ideal) x1 x2 x3 (ix3 b a k)
    = Spec.smooth (Spec.target (anc x2 a 0) (anc x2 a 1) (anc x2 a 2) (anc x2 a 3) (box x3 b) k) (x1 (ix3 b a k)) := by
  pointwise [val_main_v218, val_main_v217, val_main_v216, val_main_v215, val_main_v214, val_main_v213, val_main_v212, val_main_v211,
    val_main_v210, val_main_v209, val_main_cst_30, val_main_cst_31, val_main_cst_32, target_apply]
  rw [← mul_assoc]
  rfl

/-- The matched anchors, along the four regressions. -/
theorem good3_apply (k : Fin 4) : val_main_call10_v1 (F := Ideal) x2 x3 (ix3 b a k)
    = if Spec.Good (top x2 x3 b a) then 1#1 else 0#1 := by
  pointwise [val_main_call10_v1, val_main_v219, good_apply]

/-- The loss of an unmatched anchor. -/
theorem none_apply (k : Fin 4) : val_main_call10_v3 (F := Ideal) (ix3 b a k) = 0 := by
  pointwise [val_main_call10_v3, val_main_call10_v2, val_main_call10_v0, val_main_cst_33]
  exact Words.zero

/-- The loss of one regression of an anchor. -/
theorem regress_apply (k : Fin 4) : val_main_v220 (F := Ideal) x1 x2 x3 (ix3 b a k)
    = if Spec.Good (top x2 x3 b a) then
        Spec.smooth (Spec.target (anc x2 a 0) (anc x2 a 1) (anc x2 a 2) (anc x2 a 3) (box x3 b) k) (x1 (ix3 b a k)) else 0 := by
  rw [val_main_v220_apply, smooth_apply, good3_apply, none_apply]
  exact select_ite _ _ _

/-- A sum over the last two of three axes is a double sum. -/
theorem sum_last_two {B M N : ℕ} (h : (⟨3, ![B, M, N]⟩ : Shape).ReducesTo [1, 2] ⟨1, ![B]⟩)
    (x : (⟨3, ![B, M, N]⟩ : Shape).Idx → EReal) (init : EReal) (b : Fin B) :
    Ideal.hostReduceAdd h x init (ix1 b) = init + ∑ a : Fin M, ∑ c : Fin N, x (ix3 b a c) := by
  classical
  unfold Ideal.hostReduceAdd
  congr 1
  rw [← Finset.sum_product']
  have hd : ∀ i, (h.drop i 0 : Nat) = i 0 := fun i => Shape.ReducesTo.drop_apply_val _ i 0
  refine Finset.sum_bij' (fun i _ => (i 1, i 2)) (fun q _ => ix3 b q.1 q.2) ?_ ?_ ?_ ?_ ?_
  · exact fun _ _ => Finset.mem_univ _
  · intro q _
    refine Finset.mem_filter.2 ⟨Finset.mem_univ _, ?_⟩
    funext d
    match d with
    | ⟨0, _⟩ => exact Fin.ext (hd _)
  · intro i hi
    have := hd i
    rw [(Finset.mem_filter.1 hi).2] at this
    funext d
    match d with
    | ⟨0, _⟩ => exact Fin.ext this
    | ⟨1, _⟩ => rfl
    | ⟨2, _⟩ => rfl
  · exact fun _ _ => rfl
  · intro i hi
    have := hd i
    rw [(Finset.mem_filter.1 hi).2] at this
    congr 1
    funext d
    match d with
    | ⟨0, _⟩ => exact Fin.ext this.symm
    | ⟨1, _⟩ => rfl
    | ⟨2, _⟩ => rfl

/-- The classification loss of an image. -/
theorem class_sum : val_main_v221 (F := Ideal) x0 x2 x3 (ix1 b)
    = ∑ a : Fin 49104, ∑ c : Fin 80, ((Spec.score (top x2 x3 b a) (kind x2 x3 b a) c (Spec.clipR (x0 (ix3 b a c))) : ℝ) : EReal) := by
  refine (sum_last_two (B := 8) (M := 49104) (N := 80) reducesTo_S8x49104x80_S8_d1_2 (val_main_v159 (F := Ideal) x0 x2 x3) _ b).trans ?_
  rw [show val_main_cst_34 (F := Ideal) _ = (0 : EReal) from Words.zero, zero_add]
  exact Finset.sum_congr rfl fun a _ => Finset.sum_congr rfl fun c _ => class_apply x0 x2 x3 b a c

/-- The regression loss of an image. -/
theorem regress_sum : val_main_v225 (F := Ideal) x1 x2 x3 (ix1 b)
    = ∑ a : Fin 49104, ∑ k : Fin 4, if Spec.Good (top x2 x3 b a) then
        Spec.smooth (Spec.target (anc x2 a 0) (anc x2 a 1) (anc x2 a 2) (anc x2 a 3) (box x3 b) k) (x1 (ix3 b a k)) else 0 := by
  refine (sum_last_two (B := 8) (M := 49104) (N := 4) reducesTo_S8x49104x4_S8_d1_2 (val_main_v220 (F := Ideal) x1 x2 x3) _ b).trans ?_
  rw [show val_main_cst_36 (F := Ideal) _ = (0 : EReal) from Words.zero, zero_add]
  exact Finset.sum_congr rfl fun a _ => Finset.sum_congr rfl fun c _ => regress_apply x1 x2 x3 b a c

/-- The number of matched anchors of an image. -/
theorem count_apply : val_main_v109 (F := Ideal) x2 x3 (ix1 b)
    = (((Finset.univ.filter fun a : Fin 49104 => Spec.Good (top x2 x3 b a)).card : ℝ) : EReal) := by
  have hc : (val_main_v108 (F := Ideal) x2 x3 (ix1 b)).toNat
      = (Finset.univ.filter fun a : Fin 49104 => Spec.Good (top x2 x3 b a)).card := by
    refine (Idealize.ShloMosaic.StableHlo.Predicate.toNat_reduce_count_cols (by norm_num) (val_main_v106 (F := Ideal) x2 x3) natLt_1_32 reducesTo_S8x49104_S8_d1 h_S_ (ix1 b)).trans ?_
    refine congrArg Finset.card (Finset.filter_congr fun a _ => ?_)
    have e := good_apply x2 x3 b a
    refine (Eq.congr_left (show val_main_v106 (F := Ideal) x2 x3 (ij (ix1 b 0) a) = _ from e)).trans ?_
    by_cases h : Spec.Good (top x2 x3 b a)
    · rw [if_pos h]
      exact ⟨fun _ => h, fun _ => rfl⟩
    · rw [if_neg h]
      exact ⟨fun k => absurd k (by decide), fun k => absurd k h⟩
  have hle : (Finset.univ.filter fun a : Fin 49104 => Spec.Good (top x2 x3 b a)).card ≤ 49104 :=
    (Finset.card_filter_le _ _).trans (Finset.card_fin 49104).le
  rw [val_main_v109_apply]
  change (((val_main_v108 (F := Ideal) x2 x3 (ix1 b)).toInt : ℝ) : EReal) = _
  rw [BitVec.toInt_eq_toNat_of_lt (by omega), hc]
  rw [Int.cast_natCast]

attribute [local irreducible] val_main_v221 val_main_v225 val_main_v109

/-- The first result: the mean over the images of the classification loss in matched anchors. -/
theorem class_mean : val_main_v234 (F := Ideal) x0 x2 x3 (ix1 (0 : Fin 1))
    = Ideal.div (∑ b : Fin 8, Ideal.div (val_main_v221 (F := Ideal) x0 x2 x3 (ix1 b)) (max (val_main_v109 (F := Ideal) x2 x3 (ix1 b)) 1))
        (Ideal.ofBits .f32 0x41000000#32) := by
  pointwise [val_main_v234, val_main_v233, val_main_v232, val_main_v231, val_main_v224, val_main_v223, val_main_v222, val_main_cst_39,
    val_main_cst_40, val_main_cst_35]

/-- The second result: the mean over the images of the regression loss in regressed numbers. -/
theorem regress_mean : val_main_v238 (F := Ideal) x1 x2 x3 (ix1 (0 : Fin 1))
    = Ideal.div (∑ b : Fin 8, Ideal.div (val_main_v225 (F := Ideal) x1 x2 x3 (ix1 b))
        (max (val_main_v109 (F := Ideal) x2 x3 (ix1 b) * Ideal.ofBits .f32 0x40800000#32) 1)) (Ideal.ofBits .f32 0x41000000#32) := by
  pointwise [val_main_v238, val_main_v237, val_main_v236, val_main_v235, val_main_v230, val_main_v229, val_main_v228, val_main_v227,
    val_main_v226, val_main_cst_37, val_main_cst_38, val_main_cst_41, val_main_cst_42]

end Cert.ReferenceIdeal.Match
-- ==== Proof.MatchOut.lean ====
module
public import proofs.«01_k».proof.Proof.MatchArr
public import proofs.«01_k».proof.Proof.HostIn
public import proofs.«01_k».proof.Proof.RefReg
public import Idealize.ShloMosaic.Lib.Pointwise.Sums

/-! What the matching region leaves of the arguments: which anchors count, which are matched, the class of each one's best box,
the regression loss and the number of matched anchors of each image. -/

@[expose] public section
set_option maxRecDepth 16384
noncomputable section
namespace Cert.KernelIdeal.Out
open Cert.KernelIdeal Cert.KernelIdeal.Gen Cert.KernelIdeal.Match Cert.KernelIdeal.Host
open Idealize.ShloMosaic Idealize.ShloMosaic.TcCoe
open Cert.ReferenceIdeal.Match (anc box top kind)

/-- The padded layout's tiles run over the anchors, then the padding. -/
theorem sum_padded {M : Type*} [AddCommMonoid M] (f : Fin 49104 → M) :
    (∑ i : Fin 8, ∑ j : Fin 6144, if h : Inside i j then f ⟨i.val * 6144 + j.val, h⟩ else 0) = ∑ a, f a := by
  have e := Fin.sum_univ_tiles 8 6144 (N := 49104 + 48) rfl (fun n => if h : n.val < 49104 then f ⟨n, h⟩ else 0)
  rw [Fin.sum_univ_add] at e
  refine Eq.trans (e.symm.trans ?_) rfl
  rw [Finset.sum_eq_zero (s := Finset.univ (α := Fin 48)) (fun k _ => dif_neg (by simp)), add_zero]
  exact Finset.sum_congr rfl fun a _ => dif_pos a.isLt

variable (m : (ℓ : Loc nD τ sig) → Buf (Elt Ideal) ℓ) (c : Dev nD) (b : Fin 8) (i : Fin 8) (j : Fin 6144)

/-- The point that handles an image. -/
abbrev pt : Fin cfg0.N := ⟨b.val, Nat.lt_of_lt_of_eq b.isLt N_0.symm⟩

/-- The table a point is given is the boxes of its image. -/
theorem boxAt_eq : boxAt (Launched.entry0 m) c (pt b) = box (boxes m c) b := by
  funext k n
  rw [box_read (Launched.entry0 m) c (pt b) b rfl]
  show V17 m c (Proc.devRef .tc main_arg3) _ = _
  rw [boxes_apply]
  rfl

section
variable (h : Inside i j)

/-- The anchor in a lane. -/
abbrev at_ : Fin 49104 := ⟨i.val * 6144 + j.val, h⟩

/-- The first coordinate in a lane is its anchor's. -/
theorem y1_eq : y1At (Launched.entry0 m) c (pt b) (ix2 i j) = anc (anchors m c) (at_ i j h) 0 :=
  (y1_read _ c _ i j).trans (anchor0_apply m c i j h)
/-- The second coordinate in a lane is its anchor's. -/
theorem x1_eq : x1At (Launched.entry0 m) c (pt b) (ix2 i j) = anc (anchors m c) (at_ i j h) 1 :=
  (x1_read _ c _ i j).trans (anchor1_apply m c i j h)
/-- The third coordinate in a lane is its anchor's. -/
theorem y2_eq : y2At (Launched.entry0 m) c (pt b) (ix2 i j) = anc (anchors m c) (at_ i j h) 2 :=
  (y2_read _ c _ i j).trans (anchor2_apply m c i j h)
/-- The fourth coordinate in a lane is its anchor's. -/
theorem x2_eq : x2At (Launched.entry0 m) c (pt b) (ix2 i j) = anc (anchors m c) (at_ i j h) 3 :=
  (x2_read _ c _ i j).trans (anchor3_apply m c i j h)
end

/-- The best ratio and class of an anchor. -/
abbrev topOf (a : Fin 49104) : EReal := top (anchors m c) (boxes m c) b a
@[inherit_doc topOf] abbrev kindOf (a : Fin 49104) : EReal := kind (anchors m c) (boxes m c) b a

/-- The regression loss of an anchor. -/
def regLoss (a : Fin 49104) : EReal :=
  ∑ k : Fin 4, if Spec.Good (topOf m c b a) then
    Spec.smooth (Spec.target (anc (anchors m c) a 0) (anc (anchors m c) a 1) (anc (anchors m c) a 2) (anc (anchors m c) a 3) (box (boxes m c) b) k)
      (regs m c (ix3 b a k)) else 0

/-- A lane is matched where its anchor is. -/
theorem matched_lane : matched (y1At (Launched.entry0 m) c (pt b)) (x1At (Launched.entry0 m) c (pt b)) (y2At (Launched.entry0 m) c (pt b))
      (x2At (Launched.entry0 m) c (pt b)) (boxAt (Launched.entry0 m) c (pt b)) (ix2 i j)
    = if h : Inside i j then (if Spec.Good (topOf m c b (at_ i j h)) then (1 : EReal) else 0) else 0 := by
  rw [matched_apply, boxAt_eq]
  by_cases h : Inside i j
  · rw [dif_pos h, y1_eq m c b i j h, x1_eq m c b i j h, y2_eq m c b i j h, x2_eq m c b i j h]
    exact if_congr ⟨And.left, fun k => ⟨k, h⟩⟩ rfl rfl
  · rw [dif_neg h, if_neg fun k => h k.2]

/-- A lane counts where its anchor does. -/
theorem counted_lane : counted (y1At (Launched.entry0 m) c (pt b)) (x1At (Launched.entry0 m) c (pt b)) (y2At (Launched.entry0 m) c (pt b))
      (x2At (Launched.entry0 m) c (pt b)) (boxAt (Launched.entry0 m) c (pt b)) (ix2 i j)
    = if h : Inside i j then (if Spec.Good (topOf m c b (at_ i j h)) ∨ Spec.Poor (topOf m c b (at_ i j h)) then (1 : EReal) else 0) else 0 := by
  rw [counted_apply, boxAt_eq]
  by_cases h : Inside i j
  · rw [dif_pos h, y1_eq m c b i j h, x1_eq m c b i j h, y2_eq m c b i j h, x2_eq m c b i j h]
    exact if_congr ⟨And.left, fun k => ⟨k, h⟩⟩ rfl rfl
  · rw [dif_neg h, if_neg fun k => h k.2]

/-- A lane's class is its anchor's. -/
theorem class_lane (h : Inside i j) : got (y1At (Launched.entry0 m) c (pt b)) (x1At (Launched.entry0 m) c (pt b)) (y2At (Launched.entry0 m) c (pt b))
      (x2At (Launched.entry0 m) c (pt b)) (boxAt (Launched.entry0 m) c (pt b)) 4 20 (ix2 i j) = kindOf m c b (at_ i j h) := by
  rw [got_apply, boxAt_eq, y1_eq m c b i j h, x1_eq m c b i j h, y2_eq m c b i j h, x2_eq m c b i j h]
  rfl

/-- A lane's regression loss is its anchor's. -/
theorem regress_lane : regress (y1At (Launched.entry0 m) c (pt b)) (x1At (Launched.entry0 m) c (pt b)) (y2At (Launched.entry0 m) c (pt b))
      (x2At (Launched.entry0 m) c (pt b)) (boxAt (Launched.entry0 m) c (pt b))
      (flat (Own.K0.ms0_4 (pt b)) (Own.K0.hs0_4 (pt b)) (Own.K0.iblk (Launched.entry0 m) c 4 (pt b)))
      (flat (Own.K0.ms0_5 (pt b)) (Own.K0.hs0_5 (pt b)) (Own.K0.iblk (Launched.entry0 m) c 5 (pt b)))
      (flat (Own.K0.ms0_6 (pt b)) (Own.K0.hs0_6 (pt b)) (Own.K0.iblk (Launched.entry0 m) c 6 (pt b)))
      (flat (Own.K0.ms0_7 (pt b)) (Own.K0.hs0_7 (pt b)) (Own.K0.iblk (Launched.entry0 m) c 7 (pt b))) (ix2 i j)
    = if h : Inside i j then regLoss m c b (at_ i j h) else 0 := by
  rw [regress_apply, boxAt_eq]
  by_cases h : Inside i j
  · rw [dif_pos h, y1_eq m c b i j h, x1_eq m c b i j h, y2_eq m c b i j h, x2_eq m c b i j h,
      r0_read _ c (pt b) b i j rfl, r1_read _ c (pt b) b i j rfl, r2_read _ c (pt b) b i j rfl, r3_read _ c (pt b) b i j rfl]
    unfold regLoss
    by_cases g : Spec.Good (topOf m c b (at_ i j h))
    · rw [if_pos ⟨g, h⟩]
      refine Finset.sum_congr rfl fun k _ => ?_
      rw [if_pos g]
      refine congrArg (Spec.smooth _) ?_
      fin_cases k
      · exact reg0_apply m c b i j h
      · exact reg1_apply m c b i j h
      · exact reg2_apply m c b i j h
      · exact reg3_apply m c b i j h
    · rw [if_neg fun k => g k.1]
      exact (Finset.sum_eq_zero fun k _ => if_neg g).symm
  · rw [dif_neg h, if_neg fun k => h k.2]

/-- Which anchors count. -/
theorem mask_out : Launched.after0 m c (Proc.devRef .tc main_v37_0) (ix3 b i j)
    = if h : Inside i j then (if Spec.Good (topOf m c b (at_ i j h)) ∨ Spec.Poor (topOf m c b (at_ i j h)) then (1 : EReal) else 0) else 0 := by
  rw [Launched.after0_0]
  exact (mask_array (Launched.entry0 m) c (pt b) b i j _ _ rfl).trans (counted_lane m c b i j)

/-- Which anchors are matched. -/
theorem good_out : Launched.after0 m c (Proc.devRef .tc main_v37_1) (ix3 b i j)
    = if h : Inside i j then (if Spec.Good (topOf m c b (at_ i j h)) then (1 : EReal) else 0) else 0 := by
  rw [Launched.after0_1]
  exact (good_array (Launched.entry0 m) c (pt b) b i j _ _ rfl).trans (matched_lane m c b i j)

/-- The class of an anchor's best box. -/
theorem kind_out (h : Inside i j) : Launched.after0 m c (Proc.devRef .tc main_v37_2) (ix3 b i j) = kindOf m c b (at_ i j h) := by
  rw [Launched.after0_2]
  exact (kind_array (Launched.entry0 m) c (pt b) b i j _ _ rfl).trans (class_lane m c b i j h)

/-- The regression loss of an image. -/
theorem regress_out : regOf m c b = ∑ a : Fin 49104, regLoss m c b a := by
  unfold regOf
  rw [V22_of m _ c _ (by decide), V21_of m _ c _ (by decide), V20_of m _ c _ (by decide), V19_of m _ c _ (by decide), Launched.V18_eq, Launched.after0_3]
  refine (regress_array (Launched.entry0 m) c (pt b) b _ _ rfl 0).trans ((lanes_sum _ 0).trans ?_)
  rw [← sum_padded]
  exact Finset.sum_congr rfl fun i _ => Finset.sum_congr rfl fun j _ => regress_lane m c b i j

/-- The number of matched anchors of an image. -/
theorem count_out : countOf m c b = (((Finset.univ.filter fun a : Fin 49104 => Spec.Good (topOf m c b a)).card : ℝ) : EReal) := by
  unfold countOf
  rw [V22_of m _ c _ (by decide), V21_of m _ c _ (by decide), V20_of m _ c _ (by decide), V19_of m _ c _ (by decide), Launched.V18_eq, Launched.after0_4]
  refine (count_array (Launched.entry0 m) c (pt b) b _ _ rfl 0).trans ((lanes_sum' _ 0).trans ?_)
  refine (Finset.sum_congr rfl fun i _ => Finset.sum_congr rfl fun j _ => matched_lane m c b i j).trans ?_
  rw [sum_padded fun a => if Spec.Good (topOf m c b a) then (1 : EReal) else 0, Finset.sum_boole]
  rfl

end Cert.KernelIdeal.Out
-- ==== Proof.ClassOut.lean ====
module
public import proofs.«01_k».proof.Proof.Class
public import proofs.«01_k».proof.Proof.MatchOut

/-! The class loss the focal region leaves for an image: the sum of the losses of all its scores. -/

@[expose] public section
set_option maxRecDepth 16384
noncomputable section
namespace Cert.KernelIdeal.Out
open Cert.KernelIdeal Cert.KernelIdeal.Gen Cert.KernelIdeal.Match Cert.KernelIdeal.Host
open Idealize.ShloMosaic Idealize.ShloMosaic.TcCoe
open Cert.KernelIdeal.Focal (iblk lane part partAt)

variable (m : (ℓ : Loc nD τ sig) → Buf (Elt Ideal) ℓ) (c : Dev nD) (b : Fin 8) (i : Fin 8) (j : Fin 6144)

/-- The point of the focal region that handles a tile. -/
abbrev fpt : Fin cfg1.N := Focal.pt b i.val i.isLt

/-- The blocks of a tile: its scores, where its lanes count, where they are matched, and their classes. -/
abbrev tile0 : Vec Ideal S1x80x6144 .f32 := iblk (Launched.entry1 m) c 0 (fpt b i)
@[inherit_doc tile0] abbrev tile1 : Vec Ideal S1x1x6144 .f32 := iblk (Launched.entry1 m) c 1 (fpt b i)
@[inherit_doc tile0] abbrev tile2 : Vec Ideal S1x1x6144 .f32 := iblk (Launched.entry1 m) c 2 (fpt b i)
@[inherit_doc tile0] abbrev tile3 : Vec Ideal S1x1x6144 .f32 := iblk (Launched.entry1 m) c 3 (fpt b i)

/-- The image of a tile's point. -/
theorem fpt_image : (fpt b i).val / 8 = b.val := by show (8 * b.val + i.val) / 8 = b.val; omega
/-- The number of a tile's point among its image's. -/
theorem fpt_tile : (fpt b i).val % 8 = i.val := by show (8 * b.val + i.val) % 8 = i.val; omega

/-- The tile of a lane. -/
theorem lane_div (h : (lane i j).val / 6144 < 8) : (⟨(lane i j).val / 6144, h⟩ : Fin 8) = i :=
  Fin.ext (by show (i.val * 6144 + j.val) / 6144 = i.val; omega)
/-- The place of a lane in its tile. -/
theorem lane_mod (h : (lane i j).val % 6144 < 6144) : (⟨(lane i j).val % 6144, h⟩ : Fin 6144) = j :=
  Fin.ext (by show (i.val * 6144 + j.val) % 6144 = j.val; omega)

/-- Where the lanes of a tile count. -/
theorem mask_in : tile1 m c b i (ix3 (0 : Fin 1) (0 : Fin 1) j)
    = if h : Inside i j then (if Spec.Good (topOf m c b (at_ i j h)) ∨ Spec.Poor (topOf m c b (at_ i j h)) then (1 : EReal) else 0) else 0 := by
  refine (Focal.mask_read j _ c (fpt b i) b i (fpt_image b i) (fpt_tile b i)).trans ((mask_apply m c b (lane i j)).trans ?_)
  rw [lane_div, lane_mod]
  exact mask_out m c b i j

/-- Where the lanes of a tile are matched. -/
theorem good_in : tile2 m c b i (ix3 (0 : Fin 1) (0 : Fin 1) j)
    = if h : Inside i j then (if Spec.Good (topOf m c b (at_ i j h)) then (1 : EReal) else 0) else 0 := by
  refine (Focal.good_read j _ c (fpt b i) b i (fpt_image b i) (fpt_tile b i)).trans ((good_apply m c b (lane i j)).trans ?_)
  rw [lane_div, lane_mod]
  exact good_out m c b i j

/-- The class a tile is given for an anchor's lane. -/
theorem kind_in (h : Inside i j) : tile3 m c b i (ix3 (0 : Fin 1) (0 : Fin 1) j) = kindOf m c b (at_ i j h) := by
  refine (Focal.kind_read j _ c (fpt b i) b i (fpt_image b i) (fpt_tile b i)).trans ((kind_apply m c b (lane i j)).trans ?_)
  rw [lane_div, lane_mod]
  exact kind_out m c b i j h

/-- The scores a tile is given for an anchor's lane. -/
theorem score_in (h : Inside i j) (k : Fin 80) : tile0 m c b i (ix3 (0 : Fin 1) k j) = logits m c (ix3 b (at_ i j h) k) := by
  refine (Focal.scores_read j k _ c (fpt b i) b i (fpt_image b i) (fpt_tile b i)).trans ((logits_apply m c b k (lane i j)).trans ?_)
  exact dif_pos h

/-- A clipped score, as a real. -/
abbrev pr (a : Fin 49104) (k : Fin 80) : ℝ := Spec.clipR (logits m c (ix3 b a k))

/-- The loss of an anchor's scores. -/
def anchorLoss (a : Fin 49104) : ℝ := ∑ k : Fin 80, Spec.score (topOf m c b a) (kindOf m c b a) k (pr m c b a k)

/-- The classes of the boxes are among the eighty. -/
def InRange : Prop := ∀ (b : Fin 8) (n : Fin 20), 0 ≤ (boxes m c (ix3 b n (4 : Fin 5)) : EReal) ∧ (boxes m c (ix3 b n (4 : Fin 5)) : EReal) < ((80 : ℝ) : EReal)

/-- Then so is the class of each anchor's best box. -/
theorem kind_number (hr : InRange m c) (a : Fin 49104) : ∃ k : Fin 80, Ideal.fptosi 32 (kindOf m c b a) = BitVec.ofNat 32 k.val := by
  unfold kindOf Cert.ReferenceIdeal.Match.kind Spec.field
  obtain ⟨n, hn, e⟩ := Spec.held_mem (Spec.ratios (Cert.ReferenceIdeal.Match.anc (anchors m c) a 0) (Cert.ReferenceIdeal.Match.anc (anchors m c) a 1)
    (Cert.ReferenceIdeal.Match.anc (anchors m c) a 2) (Cert.ReferenceIdeal.Match.anc (anchors m c) a 3) (Cert.ReferenceIdeal.Match.box (boxes m c) b)) (fun n => Cert.ReferenceIdeal.Match.box (boxes m c) b n 4) (fun n => Spec.overlap_nonneg _ _ _ _ _) 19
  rw [e]
  exact Spec.class_number _ (hr b ⟨n % 20, Nat.mod_lt _ (by omega)⟩).1 (hr b ⟨n % 20, Nat.mod_lt _ (by omega)⟩).2

section
variable (own : Fin 49104 → Fin 80) (ho : ∀ a, Ideal.fptosi 32 (kindOf m c b a) = BitVec.ofNat 32 (own a).val)

/-- A lane's share of the first of a block's two numbers. -/
def base : ℝ := if h : Inside i j then (if Spec.Good (topOf m c b (at_ i j h)) ∨ Spec.Poor (topOf m c b (at_ i j h)) then 1 else 0)
    * ∑ k : Fin 80, pr m c b (at_ i j h) k * pr m c b (at_ i j h) k * Real.log (1 - pr m c b (at_ i j h) k) else 0

/-- A lane's share of the second. -/
def extra : ℝ := if h : Inside i j then (if Spec.Good (topOf m c b (at_ i j h)) then 1 else 0)
    * (Spec.spike (pr m c b (at_ i j h) (own (at_ i j h))) - Spec.ground (pr m c b (at_ i j h) (own (at_ i j h)))) else 0

/-- A condition's number, as a real. -/
theorem coe_ite' (p : Prop) [Decidable p] : (if p then (1 : EReal) else 0) = ((if p then (1 : ℝ) else 0 : ℝ) : EReal) := by
  split <;> rfl

/-- The losses of a lane's scores at the target zero, before their factor, are the real number `base`. -/
theorem base_lane : tile1 m c b i (ix3 (0 : Fin 1) (0 : Fin 1) j)
      * (∑ k : Fin 80, Spec.clip (tile0 m c b i (ix3 (0 : Fin 1) k j))
        * Spec.clip (tile0 m c b i (ix3 (0 : Fin 1) k j))
        * Ideal.log (1 - Spec.clip (tile0 m c b i (ix3 (0 : Fin 1) k j))))
    = ((base m c b i j : ℝ) : EReal) := by
  rw [mask_in]
  unfold base
  by_cases h : Inside i j
  · rw [dif_pos h, dif_pos h, coe_ite', EReal.coe_mul]
    refine congrArg _ ?_
    rw [← Spec.coe_total]
    refine Finset.sum_congr rfl fun k _ => ?_
    rw [score_in m c b i j h k, Spec.clip_coe, Spec.one_sub, Spec.log_real _ (by have := Spec.clipR_lt (logits m c (ix3 b (at_ i j h) k)); linarith),
      ← EReal.coe_mul, ← EReal.coe_mul]
  · rw [dif_neg h, dif_neg h, zero_mul, EReal.coe_zero]

include ho in
/-- The correction of a lane at its own class is the real number `extra`. -/
theorem extra_lane : tile2 m c b i (ix3 (0 : Fin 1) (0 : Fin 1) j)
      * Focal.lift (Focal.hit (tile0 m c b i) (tile3 m c b i) j)
    = ((extra m c b i j own : ℝ) : EReal) := by
  rw [good_in]
  unfold extra
  by_cases h : Inside i j
  · rw [dif_pos h, dif_pos h, coe_ite', EReal.coe_mul]
    refine congrArg _ ?_
    have e : Focal.hit (tile0 m c b i) (tile3 m c b i) j
        = ((pr m c b (at_ i j h) (own (at_ i j h)) : ℝ) : EReal) := by
      unfold Focal.hit
      rw [Finset.sum_eq_single (own (at_ i j h))]
      · rw [kind_in m c b i j h, if_pos (ho _), score_in m c b i j h, Spec.clip_coe]
      · intro k _ hk
        rw [kind_in m c b i j h, if_neg]
        intro e
        have e' := congrArg BitVec.toNat ((ho (at_ i j h)).symm.trans e)
        rw [BitVec.toNat_ofNat, BitVec.toNat_ofNat, Nat.mod_eq_of_lt (by omega), Nat.mod_eq_of_lt (by omega)] at e'
        exact hk (Fin.ext e'.symm)
      · exact fun h' => absurd (Finset.mem_univ _) h'
    rw [e, Spec.lift_real _ (Spec.clipR_pos _) (Spec.clipR_lt _)]
  · rw [dif_neg h, dif_neg h, zero_mul, EReal.coe_zero]

include ho in
/-- The two shares of a lane add up to the loss of its scores. -/
theorem shares : -(1 / 2) * base m c b i j + extra m c b i j own = if h : Inside i j then anchorLoss m c b (at_ i j h) else 0 := by
  unfold base extra
  by_cases h : Inside i j
  · rw [dif_pos h, dif_pos h, dif_pos h]
    unfold anchorLoss
    rw [Spec.scores_split _ _ (own (at_ i j h)) (ho _)]
    have e : (∑ k : Fin 80, Spec.ground (pr m c b (at_ i j h) k))
        = -(1 / 2) * ∑ k : Fin 80, pr m c b (at_ i j h) k * pr m c b (at_ i j h) k * Real.log (1 - pr m c b (at_ i j h) k) := by
      rw [Finset.mul_sum]
      exact Finset.sum_congr rfl fun k _ => by unfold Spec.ground; ring
    rw [e]
    ring
  · rw [dif_neg h, dif_neg h, dif_neg h]
    ring

include ho in
/-- What a tile adds to its image's class loss. -/
theorem tile_loss : partAt (Launched.entry1 m) c (fpt b i)
    = ((∑ j : Fin 6144, if h : Inside i j then anchorLoss m c b (at_ i j h) else 0 : ℝ) : EReal) := by
  show part (tile0 m c b i) (tile1 m c b i) (tile2 m c b i) (tile3 m c b i) = _
  unfold part
  rw [Focal.ground_block, Finset.sum_congr rfl fun j _ => base_lane m c b i j, Finset.sum_congr rfl fun j _ => extra_lane m c b i j own ho,
    Spec.coe_total, Spec.coe_total, Words.minus_half, ← EReal.coe_mul, ← EReal.coe_add, Finset.mul_sum, ← Finset.sum_add_distrib]
  exact congrArg _ (Finset.sum_congr rfl fun j _ => shares m c b i j own ho)
end

/-- The class loss of an image. -/
theorem loss_out (hr : InRange m c) : lossOf m c b = ((∑ a : Fin 49104, anchorLoss m c b a : ℝ) : EReal) := by
  choose own ho using kind_number m c b hr
  unfold lossOf
  rw [Launched.V22_out]
  refine (Focal.loss_array (Launched.entry1 m) c b _ 0).trans ?_
  rw [Finset.sum_congr rfl fun i _ => tile_loss m c b i own ho, Spec.coe_total, sum_padded]

end Cert.KernelIdeal.Out
-- ==== Proof.Agree.lean ====
module
public import proofs.«01_k».proof.Proof.ClassOut
public import proofs.«01_k».proof.Pre_classes_in_range

/-! The kernel's two results are the reference's of the same arguments, where the classes of the boxes are in range. -/

@[expose] public section
set_option maxRecDepth 16384
noncomputable section
namespace Cert.KernelIdeal.Out
open Cert.KernelIdeal Cert.KernelIdeal.Gen Cert.KernelIdeal.Host
open Idealize.ShloMosaic Idealize.ShloMosaic.TcCoe
open Cert.ReferenceIdeal.Read (val_main_v234 val_main_v238)

variable (m : (ℓ : Loc nD τ sig) → Buf (Elt Ideal) ℓ) (c : Dev nD)

/-- The only place of a one-element vector. -/
theorem only (i : (⟨1, ![1]⟩ : Shape).Idx) : i = ix1 (0 : Fin 1) := by
  funext d
  match d with
  | ⟨0, _⟩ => exact Fin.ext (by have := (i 0).isLt; show (i 0).val = 0; exact Nat.lt_one_iff.1 this)

attribute [local irreducible] Cert.ReferenceIdeal.Read.val_main_v234 Cert.ReferenceIdeal.Read.val_main_v238 Cert.ReferenceIdeal.Read.val_main_v221
  Cert.ReferenceIdeal.Read.val_main_v225 Cert.ReferenceIdeal.Read.val_main_v109 Launched.last

/-- The class loss of an image. -/
theorem loss_agrees (hr : InRange m c) (b : Fin 8) :
    lossOf m c b = Cert.ReferenceIdeal.Read.val_main_v221 (F := Ideal) (logits m c) (anchors m c) (boxes m c) (ix1 b) := by
  refine (loss_out m c b hr).trans (Eq.trans ?_ (Cert.ReferenceIdeal.Match.class_sum (logits m c) (anchors m c) (boxes m c) b).symm)
  refine (Spec.coe_total _).symm.trans (Finset.sum_congr rfl fun a _ => ?_)
  exact (Spec.coe_total _).symm

/-- The number of matched anchors of an image. -/
theorem count_agrees (b : Fin 8) :
    countOf m c b = Cert.ReferenceIdeal.Read.val_main_v109 (F := Ideal) (anchors m c) (boxes m c) (ix1 b) :=
  (count_out m c b).trans (Cert.ReferenceIdeal.Match.count_apply (anchors m c) (boxes m c) b).symm

/-- The regression loss of an image. -/
theorem reg_agrees (b : Fin 8) :
    regOf m c b = Cert.ReferenceIdeal.Read.val_main_v225 (F := Ideal) (regs m c) (anchors m c) (boxes m c) (ix1 b) :=
  (regress_out m c b).trans (Cert.ReferenceIdeal.Match.regress_sum (regs m c) (anchors m c) (boxes m c) b).symm

/-- Means of equal shares are equal. -/
theorem mean_congr (f f' g g' : Fin 8 → EReal) (e : EReal) (hf : ∀ b, f b = f' b) (hg : ∀ b, g b = g' b) :
    Ideal.div (∑ b, Ideal.div (f b) (max (g b) 1)) e = Ideal.div (∑ b, Ideal.div (f' b) (max (g' b) 1)) e := by
  rw [funext hf, funext hg]

/-- The mean class loss. -/
theorem class_value (hr : InRange m c) : (Launched.last m c (Proc.devRef .tc main_v54) (ix1 (0 : Fin 1)) : EReal)
    = val_main_v234 (F := Ideal) (logits m c) (anchors m c) (boxes m c) (ix1 (0 : Fin 1)) := by
  rw [first_apply, Cert.ReferenceIdeal.Match.class_mean]
  exact mean_congr _ _ _ _ _ (loss_agrees m c hr) (count_agrees m c)

/-- The mean regression loss. -/
theorem regress_value : (Launched.last m c (Proc.devRef .tc main_v65) (ix1 (0 : Fin 1)) : EReal)
    = val_main_v238 (F := Ideal) (regs m c) (anchors m c) (boxes m c) (ix1 (0 : Fin 1)) := by
  rw [second_apply, Cert.ReferenceIdeal.Match.regress_mean]
  exact mean_congr _ _ _ _ _ (reg_agrees m c) fun b => congrArg (· * _) (count_agrees m c b)

/-- The first result. -/
theorem class_agrees (hr : InRange m c) :
    Launched.last m c (Proc.devRef .tc main_v54) = val_main_v234 (F := Ideal) (logits m c) (anchors m c) (boxes m c) :=
  funext fun i => (only i).symm ▸ class_value m c hr

/-- The second result. -/
theorem regress_agrees :
    Launched.last m c (Proc.devRef .tc main_v65) = val_main_v238 (F := Ideal) (regs m c) (anchors m c) (boxes m c) :=
  funext fun i => (only i).symm ▸ regress_value m c

/-- The relations the precondition's operations take. -/
theorem pre_facts : Cert.Pre_classes_in_range.Facts where
  slices_S8x20x5_S8x20x1_0_0_4 := by decide
  shapeCasts_S8x20x1_S8x20 := by decide
  bcast_S_S8x20 := by decide

/-- The bound on the classes is eighty. -/
theorem eighty : Ideal.ofBits .f32 0x42A00000#32 = ((80 : ℝ) : EReal) := by
  rw [Words.normal _ 1 133 2097152 (by decide) (by decide) (by simp) (by decide) (by decide)]
  norm_num

/-- What the precondition says of the boxes. -/
theorem pre_range [Cert.Pre_classes_in_range.Facts] (x0 x1 x2) (x3 : Vec Ideal S8x20x5 .f32)
    (h : Cert.Pre_classes_in_range.fn (F := Ideal) x0 x1 x2 x3 = fun _ => 1#1) (b : Fin 8) (n : Fin 20) :
    0 ≤ (x3 (ix3 b n (4 : Fin 5)) : EReal) ∧ (x3 (ix3 b n (4 : Fin 5)) : EReal) < ((80 : ℝ) : EReal) := by
  have e := congrFun h (ix2 b n)
  have r : Cert.Pre_classes_in_range.fn (F := Ideal) x0 x1 x2 x3 (ix2 b n)
      = IntOp.andi (BitVec.ofBool (decide (0 ≤ (x3 (ix3 b n (4 : Fin 5)) : EReal))))
          (BitVec.ofBool (decide ((x3 (ix3 b n (4 : Fin 5)) : EReal) < Ideal.ofBits .f32 0x42A00000#32))) := by
    pointwise [Cert.Pre_classes_in_range.fn]
  rw [r, Words.ofBool_ite, Words.ofBool_ite, eighty] at e
  by_cases p : 0 ≤ (x3 (ix3 b n (4 : Fin 5)) : EReal)
  · by_cases q : (x3 (ix3 b n (4 : Fin 5)) : EReal) < ((80 : ℝ) : EReal)
    · exact ⟨p, q⟩
    · rw [if_neg q] at e
      exact absurd e (by split <;> decide)
  · rw [if_neg p] at e
    exact absurd e (by split <;> decide)

end Cert.KernelIdeal.Out
-- ==== Proof.lean ====
module

public import proofs.«01_k».proof.Proof.LaunchIdeal
public import proofs.«01_k».proof.Proof.LaunchBits
public import proofs.«01_k».proof.Proof.Agree
public import proofs.«01_k».proof.Defs
public import proofs.«01_k».proof.Pre_classes_in_range
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Own.Kernel.K0.Frame
public import proofs.«01_k».proof.Proof.Gen.Own.KernelIdeal.K0.Frame
import proofs.«01_k».proof.Proof.Gen.Own.ReferenceIdeal.Run
import proofs.«01_k».proof.Proof.Gen.Own.ReferenceIdeal.Read
public import Idealize.ShloMosaic.Adequacy
public import Idealize.ShloMosaic.Lib.Claim
public import Idealize.ShloMosaic.Lib.Quiescent
public import Idealize.ShloMosaic.Init

@[expose] public section

set_option maxRecDepth 16384

noncomputable section

namespace Cert.Proof

open Idealize.ShloMosaic Idealize.SL.Sem Idealize.ShloMosaic.StableHlo

/-- The kernel over machine floats runs, leaves its arguments unchanged and its semaphores at zero. -/
theorem frame_kernel : Cert.quiescent_Kernel (hKernel := Cert.Kernel.Gen.facts) := fun m g _ =>
  (θ_run Cert.Kernel.defs _ _).mono (fun _ h => ⟨fun c => (h.1 c).2.2, h.2⟩) (Cert.Kernel.Launched.run m g)

/-- The kernel over the extended reals runs, leaves its arguments unchanged and its semaphores at zero. -/
theorem frame_ideal : Cert.quiescent_KernelIdeal (hKernelIdeal := Cert.KernelIdeal.Gen.facts) := fun m g _ =>
  (θ_run Cert.KernelIdeal.defs _ _).mono (fun _ h => ⟨fun c => (h.1 c).2.2, h.2⟩) (Cert.KernelIdeal.Launched.run m g)

/-- The reference runs, leaves its arguments unchanged and its semaphores at zero. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

/-- The kernel's and the reference's results over the extended reals are equal, where the classes of the boxes are in range. -/
theorem values_agree : Cert.algebraic_KernelIdeal_ReferenceIdeal_pre_classes_in_range (hKernelIdeal := Cert.KernelIdeal.Gen.facts)
    (hReferenceIdeal := Cert.ReferenceIdeal.Gen.facts) (hPre_classes_in_range := Cert.KernelIdeal.Out.pre_facts) := by
  intro m g m' g' hp ha
  haveI := Cert.KernelIdeal.Out.pre_facts
  have hr : ∀ c, Cert.KernelIdeal.Out.InRange m c := fun c => Cert.KernelIdeal.Out.pre_range _ _ _ _ (hp c)
  refine ⟨fun c => Cert.KernelIdeal.Launched.last m c (Proc.devRef .tc Cert.KernelIdeal.main_v54),
    fun c => Cert.KernelIdeal.Launched.last m c (Proc.devRef .tc Cert.KernelIdeal.main_v65),
    (θ_run Cert.KernelIdeal.defs _ _).mono (fun _ h => h.1) (Cert.KernelIdeal.Launched.run m g),
    (θ_run Cert.ReferenceIdeal.defs _ _).mono (fun _ h c => ⟨?_, ?_, (h c).2.2⟩) (Cert.ReferenceIdeal.Value.run m' g')⟩
  · refine (h c).1.trans ((Cert.ReferenceIdeal.Read.val_main_v234_eq (launchContents m' c)).trans ?_)
    rw [launchContents_devRef, launchContents_devRef, launchContents_devRef, (ha c).1, (ha c).2.2.1, (ha c).2.2.2]
    exact (Cert.KernelIdeal.Out.class_agrees m c (hr c)).symm
  · refine (h c).2.1.trans ((Cert.ReferenceIdeal.Read.val_main_v238_eq (launchContents m' c)).trans ?_)
    rw [launchContents_devRef, launchContents_devRef, launchContents_devRef, (ha c).2.1, (ha c).2.2.1, (ha c).2.2.2]
    exact (Cert.KernelIdeal.Out.regress_agrees m c).symm

/-- Every claim of this certificate. -/
theorem claim : Cert.Claim := ⟨Cert.Kernel.Gen.facts, Cert.KernelIdeal.Gen.facts, Cert.ReferenceIdeal.Gen.facts, Cert.KernelIdeal.Out.pre_facts,
  frame_kernel, frame_ideal, fun m g _ => frame_ideal m g trivial, frame_reference, fun m g _ => frame_reference m g trivial, trivial, values_agree⟩

end Cert.Proof

end
